-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "neg_log2_e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16384x48x128 : Shape := ⟨4, ![2, 16384, 48, 128]⟩
abbrev S48 : Shape := ⟨1, ![48]⟩
abbrev S2x16384x16x128 : Shape := ⟨4, ![2, 16384, 16, 128]⟩
abbrev S16 : Shape := ⟨1, ![16]⟩
abbrev S16x128 : Shape := ⟨2, ![16, 128]⟩
abbrev S_ : Shape := ⟨0, ![]⟩
abbrev S2x16384x6144 : Shape := ⟨3, ![2, 16384, 6144]⟩
abbrev S2x16384x2048 : Shape := ⟨3, ![2, 16384, 2048]⟩
abbrev S16x1x128 : Shape := ⟨3, ![16, 1, 128]⟩
abbrev S16x3 : Shape := ⟨2, ![16, 3]⟩
abbrev S16x1 : Shape := ⟨2, ![16, 1]⟩
abbrev S1 : Shape := ⟨1, ![1]⟩
abbrev S50 : Shape := ⟨1, ![50]⟩
abbrev S1x512x384 : Shape := ⟨3, ![1, 512, 384]⟩
abbrev S1x16384x128 : Shape := ⟨3, ![1, 16384, 128]⟩
abbrev S1x1x128 : Shape := ⟨3, ![1, 1, 128]⟩
abbrev S512x384 : Shape := ⟨2, ![512, 384]⟩
abbrev S1x512x128 : Shape := ⟨3, ![1, 512, 128]⟩
abbrev S512x128 : Shape := ⟨2, ![512, 128]⟩
abbrev S512x512 : Shape := ⟨2, ![512, 512]⟩
abbrev S1x128 : Shape := ⟨2, ![1, 128]⟩
abbrev S1x384 : Shape := ⟨2, ![1, 384]⟩

abbrev nBuf : Space → Nat
  | .hbm => 24
  | .vmem => 11
  | .smem => 1
  | _ => 0

abbrev bufTy : (tb : Table) → Fin (tcTables nBuf tb) → BufTy
  | .hbm, ⟨0, _⟩ => ⟨S2x16384x48x128, .fp8e4m3⟩
  | .hbm, ⟨1, _⟩ => ⟨S48, .f32⟩
  | .hbm, ⟨2, _⟩ => ⟨S2x16384x16x128, .fp8e4m3⟩
  | .hbm, ⟨3, _⟩ => ⟨S16, .f32⟩
  | .hbm, ⟨4, _⟩ => ⟨S2x16384x16x128, .fp8e4m3⟩
  | .hbm, ⟨5, _⟩ => ⟨S16x128, .f32⟩
  | .hbm, ⟨6, _⟩ => ⟨S_, .f32⟩
  | .hbm, ⟨7, _⟩ => ⟨S2x16384x6144, .fp8e4m3⟩
  | .hbm, ⟨8, _⟩ => ⟨S2x16384x2048, .fp8e4m3⟩
  | .hbm, ⟨9, _⟩ => ⟨S2x16384x2048, .fp8e4m3⟩
  | .hbm, ⟨10, _⟩ => ⟨S16x1x128, .f32⟩
  | .hbm, ⟨11, _⟩ => ⟨S16x3, .f32⟩
  | .hbm, ⟨12, _⟩ => ⟨S16x1, .f32⟩
  | .hbm, ⟨13, _⟩ => ⟨S16x3, .f32⟩
  | .hbm, ⟨14, _⟩ => ⟨S16x3, .f32⟩
  | .hbm, ⟨15, _⟩ => ⟨S_, .f32⟩
  | .hbm, ⟨16, _⟩ => ⟨S16x3, .f32⟩
  | .hbm, ⟨17, _⟩ => ⟨S16x3, .f32⟩
  | .hbm, ⟨18, _⟩ => ⟨S48, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S50, .f32⟩
  | .hbm, ⟨23, _⟩ => ⟨S2x16384x6144, .bf16⟩
  | .local _ .vmem, ⟨0, _⟩ => ⟨S1x512x384, .fp8e4m3⟩
  | .local _ .vmem, ⟨1, _⟩ => ⟨S1x512x384, .fp8e4m3⟩
  | .local _ .vmem, ⟨2, _⟩ => ⟨S1x16384x128, .fp8e4m3⟩
  | .local _ .vmem, ⟨3, _⟩ => ⟨S1x16384x128, .fp8e4m3⟩
  | .local _ .vmem, ⟨4, _⟩ => ⟨S1x16384x128, .fp8e4m3⟩
  | .local _ .vmem, ⟨5, _⟩ => ⟨S1x16384x128, .fp8e4m3⟩
  | .local _ .vmem, ⟨6, _⟩ => ⟨S1x1x128, .f32⟩
  | .local _ .vmem, ⟨7, _⟩ => ⟨S1x1x128, .f32⟩
  | .local _ .vmem, ⟨8, _⟩ => ⟨S1x512x384, .bf16⟩
  | .local _ .vmem, ⟨9, _⟩ => ⟨S1x512x384, .bf16⟩
  | .local _ .vmem, ⟨10, _⟩ => ⟨S512x384, .f32⟩
  | .local _ .smem, ⟨0, _⟩ => ⟨S50, .f32⟩
  | _, _ => ⟨S2x16384x48x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 16, 32], ![false, false, false]⟩

@[reducible] def k0_t1_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_3 : BitVec 32 := 1#32
  ⟨c0_i32, v12, c1_i32_3⟩
def k0_mult1 (i : grid0.Coords) (k0_t1 : Fin (k0_t1_loop i).trips) : BitVec 32 :=
  let c0_i32 : BitVec 32 := 0#32
  let c1_i32_3 : BitVec 32 := 1#32
  let arg10 : BitVec 32 := Scf.iv c0_i32 c1_i32_3 k0_t1
  let c512_i32_61 : BitVec 32 := 512#32
  let v132 : BitVec 32 := Scalar.muli arg10 c512_i32_61
  v132
def k0_off1 (i : grid0.Coords) (k0_t1 : Fin (k0_t1_loop i).trips) : Fin 3 → Nat :=
  let c0_62 : Index := 0#32
  let c0_i32 : BitVec 32 := 0#32
  let c1_i32_3 : BitVec 32 := 1#32
  let arg10 : BitVec 32 := Scf.iv c0_i32 c1_i32_3 k0_t1
  let c512_i32_61 : BitVec 32 := 512#32
  let v132 : BitVec 32 := Scalar.muli arg10 c512_i32_61
  let v133 : BitVec 32 := v132
  let v134 : Index := Scalar.indexCast v133
  let c0_63 : Index := 0#32
  ![0, v134.toNat, 0]
def k0_off2 (i : grid0.Coords) (c0_i32_71 : BitVec 32) : Fin 1 → Nat :=
  let arg1 : BitVec 32 := BitVec.ofNat 32 (i 1).val
  let c3_i32_70 : BitVec 32 := 3#32
  let v143 : BitVec 32 := Scalar.muli arg1 c3_i32_70
  let v144 : BitVec 32 := Scalar.addi v143 c0_i32_71
  let v145 : Index := Scalar.indexCast v144
  ![v145.toNat]
@[reducible] def k0_t2_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_4 : BitVec 32 := 1#32
  ⟨v12, v9, c1_i32_4⟩
def k0_mult2 (i : grid0.Coords) (k0_t2 : Fin (k0_t2_loop i).trips) : BitVec 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_4 : BitVec 32 := 1#32
  let arg10 : BitVec 32 := Scf.iv v12 c1_i32_4 k0_t2
  let c512_i32_61 : BitVec 32 := 512#32
  let v132 : BitVec 32 := Scalar.muli arg10 c512_i32_61
  v132
def k0_off3 (i : grid0.Coords) (k0_t2 : Fin (k0_t2_loop i).trips) : Fin 3 → Nat :=
  let c0_62 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_4 : BitVec 32 := 1#32
  let arg10 : BitVec 32 := Scf.iv v12 c1_i32_4 k0_t2
  let c512_i32_61 : BitVec 32 := 512#32
  let v132 : BitVec 32 := Scalar.muli arg10 c512_i32_61
  let v133 : BitVec 32 := v132
  let v134 : Index := Scalar.indexCast v133
  let c0_63 : Index := 0#32
  ![0, v134.toNat, 0]
def k0_off4 (i : grid0.Coords) (c0_i32_71 : BitVec 32) : Fin 1 → Nat :=
  let arg1 : BitVec 32 := BitVec.ofNat 32 (i 1).val
  let c3_i32_70 : BitVec 32 := 3#32
  let v143 : BitVec 32 := Scalar.muli arg1 c3_i32_70
  let v144 : BitVec 32 := Scalar.addi v143 c0_i32_71
  let v145 : Index := Scalar.indexCast v144
  ![v145.toNat]
def k0_mult3 (i : grid0.Coords) : BitVec 32 :=
  let arg2 : BitVec 32 := BitVec.ofNat 32 (i 2).val
  let c512_i32 : BitVec 32 := 512#32
  let v13 : BitVec 32 := Scalar.muli arg2 c512_i32
  v13
def k0_off5 (i : grid0.Coords) : Fin 3 → Nat :=
  let c0_5 : Index := 0#32
  let arg2 : BitVec 32 := BitVec.ofNat 32 (i 2).val
  let c512_i32 : BitVec 32 := 512#32
  let v13 : BitVec 32 := Scalar.muli arg2 c512_i32
  let v14 : BitVec 32 := v13
  let v15 : Index := Scalar.indexCast v14
  let c0_6 : Index := 0#32
  ![0, v15.toNat, 0]
def k0_off6 (i : grid0.Coords) (c0_i32_13 : BitVec 32) : Fin 1 → Nat :=
  let arg1 : BitVec 32 := BitVec.ofNat 32 (i 1).val
  let c3_i32 : BitVec 32 := 3#32
  let v24 : BitVec 32 := Scalar.muli arg1 c3_i32
  let v25 : BitVec 32 := Scalar.addi v24 c0_i32_13
  let v26 : Index := Scalar.indexCast v25
  ![v26.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S50 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16384x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16384x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2_e" => some (((Real.log 2)⁻¹ : ℝ) : EReal)
  | "neg_log2_e" => some ((-((Real.log 2)⁻¹) : ℝ) : EReal)
  | _ => none
-- ==== ReferenceIdeal.lean ====
abbrev S2x16384x48x128 : Shape := ⟨4, ![2, 16384, 48, 128]⟩
abbrev S48 : Shape := ⟨1, ![48]⟩
abbrev S2x16384x16x128 : Shape := ⟨4, ![2, 16384, 16, 128]⟩
abbrev S16 : Shape := ⟨1, ![16]⟩
abbrev S16x128 : Shape := ⟨2, ![16, 128]⟩
abbrev S_ : Shape := ⟨0, ![]⟩
abbrev S2x48x16384x128 : Shape := ⟨4, ![2, 48, 16384, 128]⟩
abbrev S32x49152x128 : Shape := ⟨3, ![32, 49152, 128]⟩
abbrev S2x16x16384x128 : Shape := ⟨4, ![2, 16, 16384, 128]⟩
abbrev S32x16384x128 : Shape := ⟨3, ![32, 16384, 128]⟩
abbrev S16x3 : Shape := ⟨2, ![16, 3]⟩
abbrev S16x1 : Shape := ⟨2, ![16, 1]⟩
abbrev S1x16x1x3 : Shape := ⟨4, ![1, 16, 1, 3]⟩
abbrev S2x16x1x3 : Shape := ⟨4, ![2, 16, 1, 3]⟩
abbrev S32x3 : Shape := ⟨2, ![32, 3]⟩
abbrev S32x3x1x1 : Shape := ⟨4, ![32, 3, 1, 1]⟩
abbrev S1x16x1x128 : Shape := ⟨4, ![1, 16, 1, 128]⟩
abbrev S2x16x1x128 : Shape := ⟨4, ![2, 16, 1, 128]⟩
abbrev S32x128 : Shape := ⟨2, ![32, 128]⟩
abbrev S32x1x128 : Shape := ⟨3, ![32, 1, 128]⟩
abbrev S1 : Shape := ⟨1, ![1]⟩
abbrev S2x16384x6144 : Shape := ⟨3, ![2, 16384, 6144]⟩
abbrev S32x49152x16384 : Shape := ⟨3, ![32, 49152, 16384]⟩
abbrev S32x3x16384x16384 : Shape := ⟨4, ![32, 3, 16384, 16384]⟩

abbrev nBuf : Space → Nat
  | .hbm => 30
  | .vmem => 6
  | .smem => 1
  | _ => 0

abbrev bufTy : (tb : Table) → Fin (tcTables nBuf tb) → BufTy
  | .hbm, ⟨0, _⟩ => ⟨S2x16384x48x128, .fp8e4m3⟩
  | .hbm, ⟨1, _⟩ => ⟨S48, .f32⟩
  | .hbm, ⟨2, _⟩ => ⟨S2x16384x16x128, .fp8e4m3⟩
  | .hbm, ⟨3, _⟩ => ⟨S16, .f32⟩
  | .hbm, ⟨4, _⟩ => ⟨S2x16384x16x128, .fp8e4m3⟩
  | .hbm, ⟨5, _⟩ => ⟨S16x128, .f32⟩
  | .hbm, ⟨6, _⟩ => ⟨S_, .f32⟩
  | .hbm, ⟨7, _⟩ => ⟨S2x48x16384x128, .fp8e4m3⟩
  | .hbm, ⟨8, _⟩ => ⟨S32x49152x128, .fp8e4m3⟩
  | .hbm, ⟨9, _⟩ => ⟨S2x16x16384x128, .fp8e4m3⟩
  | .hbm, ⟨10, _⟩ => ⟨S32x16384x128, .fp8e4m3⟩
  | .hbm, ⟨11, _⟩ => ⟨S2x16x16384x128, .fp8e4m3⟩
  | .hbm, ⟨12, _⟩ => ⟨S32x16384x128, .fp8e4m3⟩
  | .hbm, ⟨13, _⟩ => ⟨S16x3, .f32⟩
  | .hbm, ⟨14, _⟩ => ⟨S16x1, .f32⟩
  | .hbm, ⟨15, _⟩ => ⟨S16x3, .f32⟩
  | .hbm, ⟨16, _⟩ => ⟨S16x3, .f32⟩
  | .hbm, ⟨17, _⟩ => ⟨S_, .f32⟩
  | .hbm, ⟨18, _⟩ => ⟨S16x3, .f32⟩
  | .hbm, ⟨19, _⟩ => ⟨S16x3, .f32⟩
  | .hbm, ⟨20, _⟩ => ⟨S1x16x1x3, .f32⟩
  | .hbm, ⟨21, _⟩ => ⟨S2x16x1x3, .f32⟩
  | .hbm, ⟨22, _⟩ => ⟨S32x3, .f32⟩
  | .hbm, ⟨23, _⟩ => ⟨S32x3x1x1, .f32⟩
  | .hbm, ⟨24, _⟩ => ⟨S1x16x1x128, .f32⟩
  | .hbm, ⟨25, _⟩ => ⟨S2x16x1x128, .f32⟩
  | .hbm, ⟨26, _⟩ => ⟨S32x128, .f32⟩
  | .hbm, ⟨27, _⟩ => ⟨S32x1x128, .f32⟩
  | .hbm, ⟨28, _⟩ => ⟨S1, .f32⟩
  | .hbm, ⟨29, _⟩ => ⟨S2x16384x6144, .bf16⟩
  | .local _ .vmem, ⟨0, _⟩ => ⟨S32x49152x128, .fp8e4m3⟩
  | .local _ .vmem, ⟨1, _⟩ => ⟨S32x16384x128, .fp8e4m3⟩
  | .local _ .vmem, ⟨2, _⟩ => ⟨S32x16384x128, .fp8e4m3⟩
  | .local _ .vmem, ⟨3, _⟩ => ⟨S32x3x1x1, .f32⟩
  | .local _ .vmem, ⟨4, _⟩ => ⟨S32x1x128, .f32⟩
  | .local _ .vmem, ⟨5, _⟩ => ⟨S2x16384x6144, .bf16⟩
  | .local _ .smem, ⟨0, _⟩ => ⟨S1, .f32⟩
  | _, _ => ⟨S2x16384x48x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "bias" => some ((-(Real.log 16384) : ℝ) : EReal)
  | _ => none

abbrev grid0 : Pipeline.Grid := .none

abbrev stage0_0 : Fin 1 → Memref sig .tc .vmem S32x49152x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16384x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16384x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x3x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16384x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Payloads.lean ====
/-
  WHAT THE KERNEL'S STORED VALUES ARE, ENTRY BY ENTRY. `score` is one entry of the product of a query row with a key row, and
  `weight` is the attention weight the kernel makes of it: `score`, the scale of the scores, the offset and the scale of the
  probabilities give `min 448 (max 0 (1 / (2^(score · (scale · (-1/ln 2)) + offset) + p)))`. Every tile of the kernel adds to
  an accumulator entry the sum, over the 512 keys of the tile, of weight times value; the tile on the diagonal counts only the
  keys that are not after the query.
-/
module

public import proofs.«01_k».proof.Proof.Gen.KernelIdeal.Value
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem

/-- The kernel's attention weight of one score `s`, under the probability scale `p`, the offset `off` and the score scale `sc`. -/
def weight (p off s sc : EReal) : EReal :=
  min (Ideal.ofBits .f32 0x43E00000#32) (max 0 (Ideal.div 1 (Ideal.exp2
    (s * (sc * Named.named (F := Ideal) κ "neg_log2_e" (φ := .f32) 0xBFB8AA3B#32) + off) + p)))

/-- The score of query row `a` of one block against key row `n` of another: their inner product. -/
def score (q k : Vec Ideal S1x512x128 .fp8e4m3) (a n : Fin 512) : EReal :=
  ∑ e : Fin 128, q (ix3 0 a e) * k (ix3 0 n e)

/-- The unmasked tile's contribution to accumulator entry `(a, d)`: over its 512 keys, weight times value. -/
def tile (p off sc : EReal) (q k v : Vec Ideal S1x512x128 .fp8e4m3) (a : Fin 512) (d : Fin 128) : EReal :=
  ∑ n : Fin 512, weight p off (score q k a n) sc * v (ix3 0 n d)

/-- The diagonal tile's contribution to accumulator entry `(a, d)`: only keys not after the query count. -/
def diag (p off sc : EReal) (q k v : Vec Ideal S1x512x128 .fp8e4m3) (a : Fin 512) (d : Fin 128) : EReal :=
  ∑ n : Fin 512, if (n : ℕ) ≤ a then weight p off (score q k a n) sc * v (ix3 0 n d) else 0

/-- The causal mask's comparison of two positions in a tile, as words, is their comparison as numbers. -/
theorem mask_eq (n a : Fin 512) (u w : EReal) :
    Scalar.select (IntOp.cmpi .sle (BitVec.ofNat 32 ↑n) (BitVec.ofNat 32 ↑a)) u w = if (n : ℕ) ≤ a then u else w := by
  rw [WordCmp.cmpi_sle_ofNat (by have := n.2; omega) (by have := a.2; omega), WordCmp.select_ofBool]
  simp

/-- First head of the group, unmasked tile. -/
theorem pay5_apply (v0 v3 : EReal) (v135 v138 v140 : Vec Ideal S1x512x128 .fp8e4m3) (v146 : EReal) (v162 : Vec Ideal S512x128 .f32)
    (a : Fin 512) (d : Fin 128) :
    k0_pay5 (F := Ideal) v0 v3 v135 v138 v140 v146 v162 (ix2 a d) = v162 (ix2 a d) + tile v0 v3 v146 v140 v135 v138 a d := by
  pointwise [k0_pay5, k0_pay3, k0_pay4]
  rfl

/-- Second head of the group, unmasked tile. -/
theorem pay6_apply (v0 v3 : EReal) (v135 v138 v168 : Vec Ideal S1x512x128 .fp8e4m3) (v174 : EReal) (v190 : Vec Ideal S512x128 .f32)
    (a : Fin 512) (d : Fin 128) :
    k0_pay6 (F := Ideal) v0 v3 (k0_pay3 v135) (k0_pay4 v138) v168 v174 v190 (ix2 a d)
      = v190 (ix2 a d) + tile v0 v3 v174 v168 v135 v138 a d := by
  pointwise [k0_pay6, k0_pay3, k0_pay4]
  rfl

/-- Third head of the group, unmasked tile. -/
theorem pay17_apply (v0 v3 : EReal) (v135 v138 v196 : Vec Ideal S1x512x128 .fp8e4m3) (v202 : EReal) (v218 : Vec Ideal S512x128 .f32)
    (a : Fin 512) (d : Fin 128) :
    k0_pay17 (F := Ideal) v0 (k0_pay4 v138) (k0_pay7 (k0_pay3 v135) v196 v202) (k0_pay8 v3) v218 (ix2 a d)
      = v218 (ix2 a d) + tile v0 v3 v202 v196 v135 v138 a d := by
  pointwise [k0_pay17, k0_pay7, k0_pay8, k0_pay3, k0_pay4]
  rfl

/-- First head of the group, diagonal tile. -/
theorem pay22_apply (v0 v3 : EReal) (v16 v19 v21 : Vec Ideal S1x512x128 .fp8e4m3) (v27 : EReal) (v48 : Vec Ideal S512x128 .f32)
    (a : Fin 512) (d : Fin 128) :
    k0_pay22 (F := Ideal) v0 v3 (k0_pay20 v19) (k0_pay21 v16 v21 v27) v48 (ix2 a d)
      = v48 (ix2 a d) + diag v0 v3 v27 v21 v16 v19 a d := by
  pointwise [k0_pay22, k0_pay21, k0_pay20, k0_pay19]
  simp only [mask_eq]
  rfl

/-- Second head of the group, diagonal tile. -/
theorem pay24_apply (v0 v3 : EReal) (v16 v19 v54 : Vec Ideal S1x512x128 .fp8e4m3) (v60 : EReal) (v81 : Vec Ideal S512x128 .f32)
    (a : Fin 512) (d : Fin 128) :
    k0_pay24 (F := Ideal) (k0_pay20 v19) (k0_pay23 v0 v3 (k0_pay19 v16) v54 v60) (Ideal.ofBits .f32 0x00000000#32)
        (Ideal.ofBits .f32 0x43E00000#32) v81 (ix2 a d)
      = v81 (ix2 a d) + diag v0 v3 v60 v54 v16 v19 a d := by
  pointwise [k0_pay24, k0_pay23, k0_pay20, k0_pay19]
  simp only [mask_eq]
  rfl

/-- Third head of the group, diagonal tile. -/
theorem pay1_apply (v0 v3 : EReal) (v16 v19 v87 : Vec Ideal S1x512x128 .fp8e4m3) (v93 : EReal) (v114 : Vec Ideal S512x128 .f32)
    (a : Fin 512) (d : Fin 128) :
    k0_pay1 (F := Ideal) (k0_pay20 v19) (k0_pay25 v0 v3 (k0_pay19 v16) v87 v93) v114 (ix2 a d)
      = v114 (ix2 a d) + diag v0 v3 v93 v87 v16 v19 a d := by
  pointwise [k0_pay1, k0_pay25, k0_pay20, k0_pay19]
  simp only [mask_eq]
  rfl

/-- The accumulator starts at zero. -/
theorem pay16_apply (y : S512x384.Idx) : k0_pay16 (F := Ideal) y = 0 := by
  pointwise [k0_pay16]

/-- Position of accumulator column `col` inside its head. -/
def headCol (col : Fin 384) : Fin 128 := ⟨(col : ℕ) % 128, Nat.mod_lt _ (by norm_num)⟩

/-- The block's result: the accumulator entry times value scale times probability scale. -/
theorem pay2_apply (v0 : EReal) (v120 : Vec Ideal S1x1x128 .f32) (v125 : Vec Ideal S512x384 .f32) (a : Fin 512) (d : Fin 384) :
    k0_pay2 (F := Ideal) v0 v120 v125 (ix3 0 a d) = v125 (ix2 a d) * (v120 (ix3 0 0 (headCol d)) * v0) := by
  pointwise [k0_pay2]
  have hd := d.2
  congr 1
  split_ifs <;> first
    | exact absurd rfl ‹_›
    | (refine congrArg (fun j => v120 (ix3 0 0 j) * v0) (Fin.ext ?_); simp only [headCol]; omega)

end Cert.KernelIdeal.Block

end
-- ==== Proof.Places.lean ====
/-
  WHERE THE KERNEL'S LOADS AND STORES LAND. A block's accumulator has three column groups of 128, one per query head of the
  group; `colOf r d` is column `d` of group `r`. A store to one group is read back at that group and is invisible at the others;
  a load of 512 rows of keys or values, or of one score scale, reads the array at the row or entry the loop's counter names.
  `keyTerm` is what key `n` adds to accumulator entry `(a, colOf r d)`; a whole tile adds its 512 keys' terms.
-/
module

public import proofs.«01_k».proof.Proof.Payloads
public import Idealize.ShloMosaic.Lib.Pipeline.ValueKit
public import Idealize.ShloMosaic.Lib.WritesUnit

@[expose] public section

set_option maxRecDepth 16384

noncomputable section

namespace Cert.KernelIdeal.Block

open Cert.KernelIdeal Cert.KernelIdeal.Gen Idealize.ShloMosaic Idealize.ShloMosaic.TcCoe Idealize.SL.Sem

/-- Column `d` of query head `r` of the group, among the block's 384 columns. -/
def colOf (r : Fin 3) (d : Fin 128) : Fin 384 := ⟨128 * (r : ℕ) + d, by have := r.2; have := d.2; omega⟩

/-- Query head `r` of group `g`, as an entry of the array of scales. -/
def headOf (g : Fin 16) (r : Fin 3) : Fin 50 := ⟨3 * (g : ℕ) + r, by have := r.2; have := g.2; omega⟩

/-- Every column is a column of some head of the group. -/
theorem colOf_headCol (col : Fin 384) : colOf ⟨(col : ℕ) / 128, by have := col.2; omega⟩ (headCol col) = col :=
  Fin.ext (by show 128 * ((col : ℕ) / 128) + (col : ℕ) % 128 = col; omega)

/-- A head's column, taken within its head. -/
theorem headCol_colOf (r : Fin 3) (d : Fin 128) : headCol (colOf r d) = d :=
  Fin.ext (by show (128 * (r : ℕ) + d) % 128 = d; have := d.2; omega)

section Stores

variable {κ : Kind} {sp : Space} (v : View sig κ sp S512x384 .f32) (f : v.ty.Contents (Elt Ideal))

/-- A store to a head's columns is read back at that head. -/
theorem read_hit {off : Fin 2 → ℕ} (inb : ∀ a : Fin S512x384.rank, off a + S512x128.size a ≤ S512x384.size a)
    (w : Vec Ideal S512x128 .f32) (L : List (View.Piece (Elt Ideal) S512x384 .f32)) (r : Fin 3) (a : Fin 512) (d : Fin 128)
    (h : off = ![0, 128 * (r : ℕ)]) :
    v.read (Elt Ideal) (v.writes (Elt Ideal) f (⟨Rect.unit (s := S512x384) off S512x128.size inb, w⟩ :: L)) (ix2 a (colOf r d)) = w (ix2 a d) :=
  View.read_writes_cons_unit_of_mem v f inb w L (ix2 a (colOf r d)) (ix2 a d) h
    (Fin.forall_fin_two.mpr ⟨(Nat.zero_add _).symm, rfl⟩)

/-- A store to a head's columns leaves every other head as it was. -/
theorem read_miss {off : Fin 2 → ℕ} (inb : ∀ a : Fin S512x384.rank, off a + S512x128.size a ≤ S512x384.size a)
    (w : Vec Ideal S512x128 .f32) (L : List (View.Piece (Elt Ideal) S512x384 .f32)) (r r' : Fin 3) (a : Fin 512) (d : Fin 128)
    (h : off = ![0, 128 * (r' : ℕ)]) (hr : r ≠ r') :
    v.read (Elt Ideal) (v.writes (Elt Ideal) f (⟨Rect.unit (s := S512x384) off S512x128.size inb, w⟩ :: L)) (ix2 a (colOf r d))
      = v.read (Elt Ideal) (v.writes (Elt Ideal) f L) (ix2 a (colOf r d)) := by
  refine View.read_writes_cons_unit_of_not_mem v f inb w L (ix2 a (colOf r d)) h (1 : Fin 2) ?_
  have hd := d.2
  have hne : (r : ℕ) ≠ r' := fun e => hr (Fin.ext e)
  show 128 * (r : ℕ) + d < 128 * (r' : ℕ) ∨ 128 * (r' : ℕ) + 128 ≤ 128 * (r : ℕ) + d
  omega

end Stores

/-- A load of a head's columns of the accumulator, at one entry. -/
theorem ld_acc (X : Vec Ideal S512x384 .f32) {off : Fin 2 → ℕ} (inb : ∀ a : Fin S512x384.rank, off a + S512x128.size a ≤ S512x384.size a)
    (r : Fin 3) (h : off = ![0, 128 * (r : ℕ)]) (a : Fin 512) (d : Fin 128) :
    View.ld X (Rect.unit (s := S512x384) off S512x128.size inb) (ix2 a d) = X (ix2 a (colOf r d)) := by
  subst h
  refine congrArg X (funext fun b => Fin.ext ?_)
  fin_cases b
  · show 0 + 1 * (a : ℕ) = a; omega
  · show 128 * (r : ℕ) + 1 * (d : ℕ) = 128 * (r : ℕ) + d; omega

/-- A load of a head's columns of the queries, at one entry. -/
theorem ld_q (X : Vec Ideal S1x512x384 .fp8e4m3) {off : Fin 3 → ℕ}
    (inb : ∀ a : Fin S1x512x384.rank, off a + S1x512x128.size a ≤ S1x512x384.size a)
    (r : Fin 3) (h : off = ![0, 0, 128 * (r : ℕ)]) (a : Fin 512) (d : Fin 128) :
    View.ld X (Rect.unit (s := S1x512x384) off S1x512x128.size inb) (ix3 0 a d) = X (ix3 0 a (colOf r d)) := by
  subst h
  refine congrArg X (funext fun b => Fin.ext ?_)
  fin_cases b
  · show 0 + 1 * 0 = 0; rfl
  · show 0 + 1 * (a : ℕ) = a; omega
  · show 128 * (r : ℕ) + 1 * (d : ℕ) = 128 * (r : ℕ) + d; omega

/-- A load of 512 rows of the keys or values, at one entry. -/
theorem ld_rows (X : Vec Ideal S1x16384x128 .fp8e4m3) {off : Fin 3 → ℕ}
    (inb : ∀ a : Fin S1x16384x128.rank, off a + S1x512x128.size a ≤ S1x16384x128.size a)
    (o : ℕ) (h : off = ![0, o, 0]) (n : Fin 512) (d : Fin 128) (ho : o + n < 16384) :
    View.ld X (Rect.unit (s := S1x16384x128) off S1x512x128.size inb) (ix3 0 n d) = X (ix3 0 ⟨o + n, ho⟩ d) := by
  subst h
  refine congrArg X (funext fun b => Fin.ext ?_)
  fin_cases b
  · show 0 + 1 * 0 = 0; rfl
  · show o + 1 * (n : ℕ) = o + n; omega
  · show 0 + 1 * (d : ℕ) = d; omega

/-- A load of one entry of the array of scales. -/
theorem ld_scale (X : Vec Ideal S50 .f32) {off : Fin 1 → ℕ} (inb : ∀ a : Fin S50.rank, off a + S1.size a ≤ S50.size a)
    (o : Fin 50) (h : off = ![(o : ℕ)]) (z : S1.Idx) :
    View.ld X (Rect.unit (s := S50) off S1.size inb) z = X (ix1 o) := by
  subst h
  refine congrArg X (funext fun b => Fin.ext ?_)
  fin_cases b
  have hz : (z 0).val < 1 := (z 0).isLt
  show (o : ℕ) + 1 * (z 0).val = o; omega

/-- The row offset of tile `k`, as the kernel computes it, is `512 k`. -/
theorem row_off (k : ℕ) (hk : k < 32) :
    BitVec.toNat (Scalar.indexCast (Scalar.muli (Scf.iv 0#32 1#32 k) 512#32)) = 512 * k := by
  interval_cases k <;> rfl

/-- The row offset of the diagonal tile, as the kernel computes it, is `512 k`. -/
theorem row_off' (k : ℕ) (hk : k < 32) : BitVec.toNat (Scalar.indexCast (Scalar.muli (BitVec.ofNat 32 k) 512#32)) = 512 * k := by
  interval_cases k <;> rfl

/-- The entry of the array of scales the kernel computes for head `r` of group `g`. -/
theorem scale_off (g r : ℕ) (hg : g < 16) (hr : r < 3) :
    BitVec.toNat (Scalar.indexCast (Scalar.addi (Scalar.muli (BitVec.ofNat 32 g) 3#32) (BitVec.ofNat 32 r))) = 3 * g + r := by
  interval_cases g <;> interval_cases r <;> rfl

/-- What key `n` adds to entry `(a, d)` of query head `r`'s accumulator: its weight times its value. -/
def keyTerm (p off : EReal) (x0 : Vec Ideal S50 .f32) (x1 : Vec Ideal S1x512x384 .fp8e4m3) (x2 x3 : Vec Ideal S1x16384x128 .fp8e4m3)
    (g : Fin 16) (r : Fin 3) (a : Fin 512) (d : Fin 128) (n : ℕ) : EReal :=
  if h : n < 16384 then
    weight p off (∑ e : Fin 128, x1 (ix3 0 a (colOf r e)) * x2 (ix3 0 ⟨n, h⟩ e)) (x0 (ix1 (headOf g r))) * x3 (ix3 0 ⟨n, h⟩ d)
  else 0

section Tiles

variable (p off sc : EReal) (q k v : Vec Ideal S1x512x128 .fp8e4m3) (x0 : Vec Ideal S50 .f32) (x1 : Vec Ideal S1x512x384 .fp8e4m3)
  (x2 x3 : Vec Ideal S1x16384x128 .fp8e4m3) (g : Fin 16) (r : Fin 3) (a : Fin 512) (d : Fin 128) (t : ℕ)

/-- An unmasked tile adds the terms of keys `512 t` to `512 t + 511`. -/
theorem tile_eq (ht : t < 32) (hs : sc = x0 (ix1 (headOf g r))) (hq : ∀ e, q (ix3 0 a e) = x1 (ix3 0 a (colOf r e)))
    (hk : ∀ (n : Fin 512) e h, k (ix3 0 n e) = x2 (ix3 0 ⟨512 * t + n, h⟩ e))
    (hv : ∀ (n : Fin 512) e h, v (ix3 0 n e) = x3 (ix3 0 ⟨512 * t + n, h⟩ e)) :
    tile p off sc q k v a d = ∑ n ∈ Finset.range 512, keyTerm p off x0 x1 x2 x3 g r a d (512 * t + n) := by
  rw [Finset.sum_range]
  refine Finset.sum_congr rfl fun n _ => ?_
  have hn : 512 * t + (n : ℕ) < 16384 := by have := n.2; omega
  rw [keyTerm, dif_pos hn, hs, hv n d hn, score]
  simp only [hq, hk n _ hn]

/-- The diagonal tile adds the terms of those of its keys that are not after the query. -/
theorem diag_eq (ht : t < 32) (hs : sc = x0 (ix1 (headOf g r))) (hq : ∀ e, q (ix3 0 a e) = x1 (ix3 0 a (colOf r e)))
    (hk : ∀ (n : Fin 512) e h, k (ix3 0 n e) = x2 (ix3 0 ⟨512 * t + n, h⟩ e))
    (hv : ∀ (n : Fin 512) e h, v (ix3 0 n e) = x3 (ix3 0 ⟨512 * t + n, h⟩ e)) :
    diag p off sc q k v a d
      = ∑ n ∈ Finset.range 512, if n ≤ a then keyTerm p off x0 x1 x2 x3 g r a d (512 * t + n) else 0 := by
  rw [Finset.sum_range]
  refine Finset.sum_congr rfl fun n _ => ?_
  have hn : 512 * t + (n : ℕ) < 16384 := by have := n.2; omega
  rw [keyTerm, dif_pos hn, hs, hv n d hn, score]
  simp only [hq, hk n _ hn]

end Tiles

end Cert.KernelIdeal.Block

end
-- ==== Proof.Block.lean ====
/-
  WHAT ONE GRID POINT OF THE KERNEL COMPUTES. The accumulator starts at zero; each trip of the loop adds an unmasked tile of 512
  keys; the masked tile on the diagonal comes last; the accumulator is then scaled. So the block's entry is the sum of the terms
  of the keys before the query block, plus the terms of the block's own keys up to the query, times the two scales (`out_apply`).
-/
module

public import proofs.«01_k».proof.Proof.Places

@[expose] public section

set_option maxRecDepth 16384

noncomputable section

namespace Cert.KernelIdeal.Block

open Cert.KernelIdeal Cert.KernelIdeal.Gen Idealize.ShloMosaic Idealize.ShloMosaic.TcCoe Idealize.SL.Sem

variable (c : Dev nD) (i : grid0.Coords)
  (arg3 : Memref sig .tc .smem S50 .f32) (harg3 : arg3.IsWhole)
  (arg4 : Memref sig .tc .vmem S1x512x384 .fp8e4m3) (harg4 : arg4.IsWhole)
  (arg5 : Memref sig .tc .vmem S1x16384x128 .fp8e4m3) (harg5 : arg5.IsWhole)
  (arg6 : Memref sig .tc .vmem S1x16384x128 .fp8e4m3) (harg6 : arg6.IsWhole)
  (arg7 : Memref sig .tc .vmem S1x1x128 .f32) (harg7 : arg7.IsWhole)
  (arg8 : Memref sig .tc .vmem S1x512x384 .bf16) (harg8 : arg8.IsWhole)
  (arg9 : Memref sig .tc .vmem S512x384 .f32) (harg9 : arg9.IsWhole)
  (v0 v1 : EReal) (x0 : Vec Ideal S50 .f32) (x1 : Vec Ideal S1x512x384 .fp8e4m3)
  (x2 x3 : Vec Ideal S1x16384x128 .fp8e4m3)

/-- The main loop makes one trip per block of keys before the query block. -/
theorem trips_eq : (k0_t1_loop i).trips = (i 2 : ℕ) := by
  have h : ∀ n : Fin 32, Scf.trips (0#32) (Scalar.addi 0#32 (Scalar.muli (Scalar.divsi (Scalar.subi (BitVec.ofNat 32 (n : ℕ)) 0#32) 1#32) 1#32)) 1#32 = (n : ℕ) := by
    decide
  exact h (i 2)

/-- One trip of the main loop adds its tile's 512 terms to every accumulator entry. -/
theorem trip_apply (f : BufTy.Contents (Elt Ideal) arg9.view.ty) (k : Fin (k0_t1_loop i).trips) (r : Fin 3) (a : Fin 512) (d : Fin 128) :
    arg9.view.read (Elt Ideal) (arg9.view.writes (Elt Ideal) f (tripL_k0_t1 (F := Ideal) Variants.none c none i arg3 harg3 arg4 harg4 arg5 harg5 arg6 harg6
      arg7 harg7 arg8 harg8 arg9 harg9 (BitVec.ofNat 32 (i 1 : ℕ)) v0 v1 (harg3.unread x0) (harg4.unread x1) (harg5.unread x2) (harg6.unread x3) k f)) (ix2 a (colOf r d))
      = arg9.view.read (Elt Ideal) f (ix2 a (colOf r d))
        + ∑ n ∈ Finset.range 512, keyTerm v0 (k0_pay15 (F := Ideal) v1) x0 x1 x2 x3 (i 1) r a d (512 * (k : ℕ) + n) := by
  have hk : (k : ℕ) < 32 := lt_of_lt_of_eq k.2 (trips_eq i) |>.trans (i 2).2
  have hg : (i 1 : ℕ) < 16 := (i 1).2
  unfold tripL_k0_t1 trip_k0_t1
  sl_unfold_words
  simp only [View.readAt_eq_ld, Memref.IsWhole.read_unread]
  match r with
  | 0 =>
    refine (read_miss _ _ _ _ _ 0 2 a d rfl (by decide)).trans ((read_miss _ _ _ _ _ 0 1 a d rfl (by decide)).trans
      ((read_hit _ _ _ _ _ 0 a d rfl).trans ?_))
    refine (pay5_apply _ _ _ _ _ _ _ a d).trans (congrArg₂ (· + ·) (ld_acc _ _ 0 rfl a d) (tile_eq _ _ _ _ _ _ x0 x1 x2 x3 (i 1) 0 a d k hk ?_
      (fun e => ld_q _ _ 0 rfl a e) (fun n e h => ld_rows _ _ (512 * k) (by rw [← row_off _ hk]) n e h)
      (fun n e h => ld_rows _ _ (512 * k) (by rw [← row_off _ hk]) n e h)))
    exact ld_scale x0 _ (headOf (i 1) 0) (congrArg (fun z => ![z]) (scale_off _ 0 hg (by decide))) _
  | 1 =>
    refine (read_miss _ _ _ _ _ 1 2 a d rfl (by decide)).trans ((read_hit _ _ _ _ _ 1 a d rfl).trans ?_)
    refine (pay6_apply _ _ _ _ _ _ _ a d).trans (congrArg₂ (· + ·) (ld_acc _ _ 1 rfl a d) (tile_eq _ _ _ _ _ _ x0 x1 x2 x3 (i 1) 1 a d k hk ?_
      (fun e => ld_q _ _ 1 rfl a e) (fun n e h => ld_rows _ _ (512 * k) (by rw [← row_off _ hk]) n e h)
      (fun n e h => ld_rows _ _ (512 * k) (by rw [← row_off _ hk]) n e h)))
    exact ld_scale x0 _ (headOf (i 1) 1) (congrArg (fun z => ![z]) (scale_off _ 1 hg (by decide))) _
  | 2 =>
    refine (read_hit _ _ _ _ _ 2 a d rfl).trans ?_
    refine (pay17_apply _ _ _ _ _ _ _ a d).trans (congrArg₂ (· + ·) (ld_acc _ _ 2 rfl a d) (tile_eq _ _ _ _ _ _ x0 x1 x2 x3 (i 1) 2 a d k hk ?_
      (fun e => ld_q _ _ 2 rfl a e) (fun n e h => ld_rows _ _ (512 * k) (by rw [← row_off _ hk]) n e h)
      (fun n e h => ld_rows _ _ (512 * k) (by rw [← row_off _ hk]) n e h)))
    exact ld_scale x0 _ (headOf (i 1) 2) (congrArg (fun z => ![z]) (scale_off _ 2 hg (by decide))) _

/-- After `k` trips of the main loop every accumulator entry has gained the terms of the first `512 k` keys. -/
theorem loop_apply (G : BufTy.Contents (Elt Ideal) arg9.view.ty) (r : Fin 3) (a : Fin 512) (d : Fin 128) (k : ℕ) (hk : k ≤ (k0_t1_loop i).trips) :
    arg9.view.read (Elt Ideal) (arg9.view.writes (Elt Ideal) G (pb_k0_t1 (F := Ideal) Variants.none c none i arg3 harg3 arg4 harg4 arg5 harg5 arg6 harg6
      arg7 harg7 arg8 harg8 arg9 harg9 (BitVec.ofNat 32 (i 1 : ℕ)) v0 v1 (harg3.unread x0) (harg4.unread x1) (harg5.unread x2) (harg6.unread x3) G k)) (ix2 a (colOf r d))
      = arg9.view.read (Elt Ideal) G (ix2 a (colOf r d))
        + ∑ n ∈ Finset.range (512 * k), keyTerm v0 (k0_pay15 (F := Ideal) v1) x0 x1 x2 x3 (i 1) r a d n := by
  induction k with
  | zero => rw [Nat.mul_zero, Finset.sum_range_zero, add_zero]; rfl
  | succ k ih =>
    have e := pb_k0_t1_succ (F := Ideal) Variants.none c none i arg3 harg3 arg4 harg4 arg5 harg5 arg6 harg6
      arg7 harg7 arg8 harg8 arg9 harg9 (BitVec.ofNat 32 (i 1 : ℕ)) v0 v1 (harg3.unread x0) (harg4.unread x1) (harg5.unread x2) (harg6.unread x3) G ⟨k, hk⟩
    rw [show (⟨k, hk⟩ : Fin (k0_t1_loop i).trips).val + 1 = k + 1 from rfl] at e
    rw [e, View.writes_append, trip_apply, ih (Nat.le_of_succ_le hk), Nat.mul_succ, Finset.sum_range_add, add_assoc]

/-- The second loop, over the blocks past the last whole one, makes no trip. -/
theorem trips_rest : (k0_t2_loop i).trips = 0 := by
  have h : ∀ n : Fin 32, Scf.trips (Scalar.addi 0#32 (Scalar.muli (Scalar.divsi (Scalar.subi (BitVec.ofNat 32 (n : ℕ)) 0#32) 1#32) 1#32))
      (Scalar.addi 0#32 (Scalar.subi (BitVec.ofNat 32 (n : ℕ)) 0#32)) 1#32 = 0 := by
    decide
  exact h (i 2)

/-- The accumulator's initial store leaves zero everywhere. -/
theorem zeros_apply (y : S512x384.Idx) (inb : ∀ a : Fin S512x384.rank, ![0, 0] a + S512x384.size a ≤ S512x384.size a) :
    arg9.view.read (Elt Ideal) (arg9.view.writes (Elt Ideal) arg9.view.junk
      [⟨Rect.unit (s := S512x384) ![0, 0] S512x384.size inb, k0_pay16 (F := Ideal)⟩]) y = 0 :=
  (View.read_writes_cons_unit_of_mem arg9.view _ inb _ [] y y rfl
    (Fin.forall_fin_two.mpr ⟨(Nat.zero_add _).symm, (Nat.zero_add _).symm⟩)).trans (pay16_apply y)

/-- After the initial store and the main loop, an accumulator entry holds the terms of the keys before the query block. -/
theorem before_apply (r : Fin 3) (a : Fin 512) (d : Fin 128) (inb : ∀ a : Fin S512x384.rank, ![0, 0] a + S512x384.size a ≤ S512x384.size a) :
    arg9.view.read (Elt Ideal) (arg9.view.writes (Elt Ideal) arg9.view.junk
      (pb_k0_t1 (F := Ideal) Variants.none c none i arg3 harg3 arg4 harg4 arg5 harg5 arg6 harg6
        arg7 harg7 arg8 harg8 arg9 harg9 (BitVec.ofNat 32 (i 1 : ℕ)) v0 v1 (harg3.unread x0) (harg4.unread x1) (harg5.unread x2) (harg6.unread x3)
        (arg9.view.writes (Elt Ideal) arg9.view.junk [⟨Rect.unit (s := S512x384) ![0, 0] S512x384.size inb, k0_pay16 (F := Ideal)⟩]) (i 2 : ℕ)
        ++ [⟨Rect.unit (s := S512x384) ![0, 0] S512x384.size inb, k0_pay16 (F := Ideal)⟩])) (ix2 a (colOf r d))
      = ∑ n ∈ Finset.range (512 * (i 2 : ℕ)), keyTerm v0 (k0_pay15 (F := Ideal) v1) x0 x1 x2 x3 (i 1) r a d n := by
  rw [View.writes_append, loop_apply (hk := (trips_eq i).ge), zeros_apply, zero_add]

/-- A load of a head's columns of the accumulator, at one entry, by what the stores before it left. -/
theorem readCov_acc (L : List (View.Piece (Elt Ideal) S512x384 .f32)) {off : Fin 2 → ℕ}
    (inb : ∀ a : Fin S512x384.rank, off a + S512x128.size a ≤ S512x384.size a) (r : Fin 3) (h : off = ![0, 128 * (r : ℕ)])
    (a : Fin 512) (d : Fin 128) :
    arg9.view.readCov L (Rect.unit (s := S512x384) off S512x128.size inb).toLoadRect (ix2 a d)
      = arg9.view.read (Elt Ideal) (arg9.view.writes (Elt Ideal) arg9.view.junk L) (ix2 a (colOf r d)) := by
  rw [View.readCov_eq_canon', View.read_writes_junk_eq_canon]
  exact ld_acc (View.canon L) inb r h a d

/-- A load of the whole accumulator, at one entry. -/
theorem readCov_all (L : List (View.Piece (Elt Ideal) S512x384 .f32)) (inb : ∀ a : Fin S512x384.rank, ![0, 0] a + S512x384.size a ≤ S512x384.size a)
    (y : S512x384.Idx) :
    arg9.view.readCov L (Rect.unit (s := S512x384) ![0, 0] S512x384.size inb).toLoadRect y
      = arg9.view.read (Elt Ideal) (arg9.view.writes (Elt Ideal) arg9.view.junk L) y := by
  rw [View.readCov_eq_canon', View.read_writes_junk_eq_canon]
  refine congrArg (View.canon L) (funext fun b => Fin.ext ?_)
  fin_cases b
  · show 0 + 1 * (y 0).val = (y 0).val; omega
  · show 0 + 1 * (y 1).val = (y 1).val; omega

/-- Entry `(a, d)` of head `r` of the block a grid point writes: the terms of the keys before the query block and of the block's own
    keys up to the query, times the value scale times the probability scale. Entries 48 and 49 of the array of scales are the
    probability scale and its logarithm. -/
theorem out_apply (x4 : Vec Ideal S1x1x128 .f32) (r : Fin 3) (a : Fin 512) (d : Fin 128) :
    out0_A_5 (F := Ideal) c i arg3 harg3 arg4 harg4 arg5 harg5 arg6 harg6 arg7 harg7 arg8 harg8 arg9 harg9 x0 x1 x2 x3 x4 (ix3 0 a (colOf r d))
      = (∑ n ∈ Finset.range (512 * (i 2 : ℕ)), keyTerm (x0 (ix1 48)) (k0_pay15 (F := Ideal) (x0 (ix1 49))) x0 x1 x2 x3 (i 1) r a d n
          + ∑ n ∈ Finset.range 512, if n ≤ a then
              keyTerm (x0 (ix1 48)) (k0_pay15 (F := Ideal) (x0 (ix1 49))) x0 x1 x2 x3 (i 1) r a d (512 * (i 2 : ℕ) + n) else 0)
        * (x4 (ix3 0 0 d) * x0 (ix1 48)) := by
  have hk : (i 2 : ℕ) < 32 := (i 2).2
  have hg : (i 1 : ℕ) < 16 := (i 1).2
  frame_open
  frame_out
  refine (pay2_apply _ _ _ a (colOf r d)).trans ?_
  rw [show Scf.trips _ _ _ = _ from trips_rest i, show Scf.trips _ _ _ = _ from trips_eq i]
  simp only [pb_k0_t2.eq_1, List.nil_append, headCol_colOf]
  have h48 : View.ld x0 (Rect.unit (s := S50) ![48] S1.size inb_S50_S1_48) (Shape.Idx.first (by decide)) = x0 (ix1 48) := ld_scale x0 _ 48 rfl _
  have h49 : View.ld x0 (Rect.unit (s := S50) ![49] S1.size inb_S50_S1_49) (Shape.Idx.first (by decide)) = x0 (ix1 49) := ld_scale x0 _ 49 rfl _
  rw [← h48, ← h49]
  refine congrArg (· * _) ((readCov_all _ _ _ _).trans ?_)
  match r with
  | 0 =>
    refine (read_miss _ _ _ _ _ 0 2 a d rfl (by decide)).trans ((read_miss _ _ _ _ _ 0 1 a d rfl (by decide)).trans
      ((read_hit _ _ _ _ _ 0 a d rfl).trans ?_))
    refine (pay22_apply _ _ _ _ _ _ _ a d).trans (congrArg₂ (· + ·) ((readCov_acc _ _ _ 0 rfl a d).trans ?_) (diag_eq _ _ _ _ _ _ x0 x1 x2 x3 (i 1) 0 a d
      (i 2) hk ?_ (fun e => ld_q _ _ 0 rfl a e) (fun n e h => ld_rows _ _ (512 * (i 2 : ℕ)) (congrArg (fun z => (![0, z, 0] : Fin 3 → ℕ)) (row_off' _ hk)) n e h)
      (fun n e h => ld_rows _ _ (512 * (i 2 : ℕ)) (congrArg (fun z => (![0, z, 0] : Fin 3 → ℕ)) (row_off' _ hk)) n e h)))
    · exact before_apply _ _ _ _ _ _ _ _ _ _ _ _ _ _ _ _ _ _ _ _ _ _ 0 a d _
    · exact ld_scale x0 _ (headOf (i 1) 0) (congrArg (fun z => ![z]) (scale_off _ 0 hg (by decide))) _
  | 1 =>
    refine (read_miss _ _ _ _ _ 1 2 a d rfl (by decide)).trans ((read_hit _ _ _ _ _ 1 a d rfl).trans ?_)
    refine (pay24_apply _ _ _ _ _ _ _ a d).trans (congrArg₂ (· + ·) ((readCov_acc _ _ _ 1 rfl a d).trans ?_) (diag_eq _ _ _ _ _ _ x0 x1 x2 x3 (i 1) 1 a d
      (i 2) hk ?_ (fun e => ld_q _ _ 1 rfl a e) (fun n e h => ld_rows _ _ (512 * (i 2 : ℕ)) (congrArg (fun z => (![0, z, 0] : Fin 3 → ℕ)) (row_off' _ hk)) n e h)
      (fun n e h => ld_rows _ _ (512 * (i 2 : ℕ)) (congrArg (fun z => (![0, z, 0] : Fin 3 → ℕ)) (row_off' _ hk)) n e h)))
    · exact (read_miss _ _ _ _ _ 1 0 a d rfl (by decide)).trans (before_apply _ _ _ _ _ _ _ _ _ _ _ _ _ _ _ _ _ _ _ _ _ _ 1 a d _)
    · exact ld_scale x0 _ (headOf (i 1) 1) (congrArg (fun z => ![z]) (scale_off _ 1 hg (by decide))) _
  | 2 =>
    refine (read_hit _ _ _ _ _ 2 a d rfl).trans ?_
    refine (pay1_apply _ _ _ _ _ _ _ a d).trans (congrArg₂ (· + ·) ((readCov_acc _ _ _ 2 rfl a d).trans ?_) (diag_eq _ _ _ _ _ _ x0 x1 x2 x3 (i 1) 2 a d
      (i 2) hk ?_ (fun e => ld_q _ _ 2 rfl a e) (fun n e h => ld_rows _ _ (512 * (i 2 : ℕ)) (congrArg (fun z => (![0, z, 0] : Fin 3 → ℕ)) (row_off' _ hk)) n e h)
      (fun n e h => ld_rows _ _ (512 * (i 2 : ℕ)) (congrArg (fun z => (![0, z, 0] : Fin 3 → ℕ)) (row_off' _ hk)) n e h)))
    · exact (read_miss _ _ _ _ _ 2 1 a d rfl (by decide)).trans ((read_miss _ _ _ _ _ 2 0 a d rfl (by decide)).trans
        (before_apply _ _ _ _ _ _ _ _ _ _ _ _ _ _ _ _ _ _ _ _ _ _ 2 a d _))
    · exact ld_scale x0 _ (headOf (i 1) 2) (congrArg (fun z => ![z]) (scale_off _ 2 hg (by decide))) _

end Cert.KernelIdeal.Block

end
-- ==== Proof.Inputs.lean ====
/-
  What the kernel's blocks hold, as entries of the program's arguments: the arguments by name, the block each grid point
  reads of every window, and the array of scales that the host computes.
-/
module

public import proofs.«01_k».proof.Proof.Block
public import Idealize.ShloMosaic.Lib.Pipeline.Covers
public import Idealize.ShloMosaic.Lib.Claim

@[expose] public section

set_option maxRecDepth 16384

noncomputable section

namespace Cert.KernelIdeal.Block

open Cert.KernelIdeal Cert.KernelIdeal.Gen Idealize.ShloMosaic Idealize.ShloMosaic.TcCoe Idealize.SL.Sem

variable (m : (ℓ : Loc nD τ sig) → Buf (Elt Ideal) ℓ) (c : Dev nD)

/-- The queries, as the program is given them. -/
abbrev Q : Vec Ideal S2x16384x48x128 .fp8e4m3 := m ((c : Thread nD τ).loc main_arg0)
/-- The queries' scales. -/
abbrev QS : Vec Ideal S48 .f32 := m ((c : Thread nD τ).loc main_arg1)
/-- The keys. -/
abbrev K : Vec Ideal S2x16384x16x128 .fp8e4m3 := m ((c : Thread nD τ).loc main_arg2)
/-- The keys' scales. -/
abbrev KS : Vec Ideal S16 .f32 := m ((c : Thread nD τ).loc main_arg3)
/-- The values. -/
abbrev V' : Vec Ideal S2x16384x16x128 .fp8e4m3 := m ((c : Thread nD τ).loc main_arg4)
/-- The values' scales. -/
abbrev VS : Vec Ideal S16x128 .f32 := m ((c : Thread nD τ).loc main_arg5)
/-- The scale of the probabilities. -/
abbrev PS : Vec Ideal S_ .f32 := m ((c : Thread nD τ).loc main_arg6)

/-- The grid is 2 batches by 16 groups by 32 query blocks. -/
theorem coord_lt (t : Fin cfg0.N) : (grid0.coords t 0 : ℕ) < 2 ∧ (grid0.coords t 1 : ℕ) < 16 ∧ (grid0.coords t 2 : ℕ) < 32 :=
  ⟨(grid0.coords t 0).2, (grid0.coords t 1).2, (grid0.coords t 2).2⟩

/-- A grid coordinate survives being a 32-bit word. -/
theorem toNat_small (n : ℕ) (h : n < 32) : (BitVec.ofNat 32 n).toNat = n := by
  rw [BitVec.toNat_ofNat, Nat.mod_eq_of_lt (by omega)]

/-- The queries and the result are blocked by batch, query block and group. -/
theorem transform5 (i : grid0.Coords) : cc0_transform_5 i = ![(i 0 : ℕ), (i 2 : ℕ), (i 1 : ℕ)] := by
  have h0 : (i 0 : ℕ) < 2 := (i 0).2
  have h1 : (i 1 : ℕ) < 16 := (i 1).2
  have h2 : (i 2 : ℕ) < 32 := (i 2).2
  show ![(BitVec.ofNat 32 (i 0 : ℕ)).toNat, (BitVec.ofNat 32 (i 2 : ℕ)).toNat, (BitVec.ofNat 32 (i 1 : ℕ)).toNat] = _
  rw [toNat_small _ (by omega), toNat_small _ (by omega), toNat_small _ (by omega)]

/-- The keys and values are blocked by batch and group. -/
theorem transform3 (i : grid0.Coords) : cc0_transform_3 i = ![(i 0 : ℕ), 0, (i 1 : ℕ)] := by
  have h0 : (i 0 : ℕ) < 2 := (i 0).2
  have h1 : (i 1 : ℕ) < 16 := (i 1).2
  show ![(BitVec.ofNat 32 (i 0 : ℕ)).toNat, 0, (BitVec.ofNat 32 (i 1 : ℕ)).toNat] = _
  rw [toNat_small _ (by omega), toNat_small _ (by omega)]

/-- The value scales are blocked by group. -/
theorem transform4 (i : grid0.Coords) : cc0_transform_4 i = ![(i 1 : ℕ), 0, 0] := by
  have h1 : (i 1 : ℕ) < 16 := (i 1).2
  show ![(BitVec.ofNat 32 (i 1 : ℕ)).toNat, 0, 0] = _
  rw [toNat_small _ (by omega)]

/-- The block index of the result at a grid point. -/
theorem index5 (t : Fin cfg0.N) : win0_5.index t = ![(grid0.coords t 0 : ℕ), (grid0.coords t 2 : ℕ), (grid0.coords t 1 : ℕ)] :=
  transform5 (grid0.coords t)
/-- The block index of the queries at a grid point. -/
theorem index1 (t : Fin cfg0.N) : win0_1.index t = ![(grid0.coords t 0 : ℕ), (grid0.coords t 2 : ℕ), (grid0.coords t 1 : ℕ)] :=
  transform5 (grid0.coords t)
/-- The block index of the keys at a grid point. -/
theorem index2 (t : Fin cfg0.N) : win0_2.index t = ![(grid0.coords t 0 : ℕ), 0, (grid0.coords t 1 : ℕ)] :=
  transform3 (grid0.coords t)
/-- The block index of the values at a grid point. -/
theorem index3 (t : Fin cfg0.N) : win0_3.index t = ![(grid0.coords t 0 : ℕ), 0, (grid0.coords t 1 : ℕ)] :=
  transform3 (grid0.coords t)
/-- The block index of the value scales at a grid point. -/
theorem index4 (t : Fin cfg0.N) : win0_4.index t = ![(grid0.coords t 1 : ℕ), 0, 0] :=
  transform4 (grid0.coords t)

/-- The block index of the array of scales at a grid point. -/
theorem index0 (t : Fin cfg0.N) : win0_0.index t = ![0] := rfl

/-- The blocks the grid points write cover the result. -/
theorem covers5 : (cfg0.win 5).Covers :=
  (cfg0.win 5).covers_of_indexMap_surj rfl (by decide) fun β =>
    ⟨fun | 0 => β 0 | 1 => β 2 | 2 => β 1, fun a => by
      show cc0_transform_5 (fun | 0 => β 0 | 1 => β 2 | 2 => β 1) a = _
      rw [transform5]
      match a with
      | 0 => rfl
      | 1 => rfl
      | 2 => rfl⟩

/-- The array of scales is the heads' scales, then the probability scale, then its logarithm. -/
theorem v14_eq : (V m c main_v14 : Vec Ideal S50 .f32) = concatenate S50 0
    [⟨S48, (V m c main_v10 : Vec Ideal S48 .f32)⟩, ⟨S1, (V m c main_v11 : Vec Ideal S1 .f32)⟩, ⟨S1, (V m c main_v13 : Vec Ideal S1 .f32)⟩]
    concatenates_S48_S1_S1_S50_d0 := by
  have h : ∀ b : Ref sig .tc, b ≠ main_v14 → V m c b = StableHlo.after (hostOps0 (F := Ideal)).dropLast (fun b => m (c, b)) b := by
    intro b hb
    simp only [V, StableHlo.after_cons, StableHlo.after_nil, hostOps0, List.dropLast]
    rw [StableHlo.nary_result_ne]
    exact hb
  rw [h main_v10 (by decide), h main_v11 (by decide), h main_v13 (by decide)]
  simp only [V, StableHlo.after_cons, StableHlo.after_nil, hostOps0, List.dropLast]
  rw [StableHlo.nary_result]
  rfl

/-- A head's scale: the query scale times its group's key scale times the inverse root of the head size. -/
theorem v10_apply (g : Fin 16) (r : Fin 3) : (V m c main_v10 : Vec Ideal S48 .f32) (ix1 (⟨3 * (g : ℕ) + r, by omega⟩ : Fin 48)) =
    QS m c (ix1 (⟨3 * (g : ℕ) + r, by omega⟩ : Fin 48)) * KS m c (ix1 g) * Ideal.ofBits .f32 0x3DB504F3#32 := by
  entry_read
  pointwise
  simp only [Nat.mul_comm (g : ℕ) 3]

/-- The second piece of the array of scales is the probability scale. -/
theorem v11_apply : (V m c main_v11 : Vec Ideal S1 .f32) (ix1 0) = PS m c ix0 := by
  entry_read
  pointwise

/-- The third piece of the array of scales is the probability scale's logarithm. -/
theorem v13_apply : (V m c main_v13 : Vec Ideal S1 .f32) (ix1 0) = Ideal.log (PS m c ix0) := by
  entry_read
  pointwise

/-- The three pieces of the scales' array. -/
abbrev pieces : List ((s : Shape) × Vec Ideal s .f32) :=
  [⟨S48, (V m c main_v10 : Vec Ideal S48 .f32)⟩, ⟨S1, (V m c main_v11 : Vec Ideal S1 .f32)⟩, ⟨S1, (V m c main_v13 : Vec Ideal S1 .f32)⟩]

/-- Entry `3 g + r` of the array of scales is the scale of head `r` of group `g`. -/
theorem head_scale (g : Fin 16) (r : Fin 3) : (V m c main_v14 : Vec Ideal S50 .f32) (ix1 (headOf g r)) =
    QS m c (ix1 (⟨3 * (g : ℕ) + r, by omega⟩ : Fin 48)) * KS m c (ix1 g) * Ideal.ofBits .f32 0x3DB504F3#32 := by
  rw [v14_eq, ← v10_apply]
  exact concatenate_apply_piece (t := S50) 0 (pieces m c) concatenates_S48_S1_S1_S50_d0 (ix1 (headOf g r)) 0 (Nat.zero_lt_succ _) S48 _ rfl rfl
    0 rfl (ix1 (⟨3 * (g : ℕ) + r, by omega⟩ : Fin 48)) (fun b hb => absurd (Fin.ext (by have := b.2; show (b : ℕ) = 0; exact Nat.lt_one_iff.mp this)) hb)
    (Nat.zero_add _)

/-- Entry 48 of the array of scales is the probability scale. -/
theorem prob_scale : (V m c main_v14 : Vec Ideal S50 .f32) (ix1 48) = PS m c ix0 := by
  rw [v14_eq, ← v11_apply]
  exact concatenate_apply_piece (t := S50) 0 (pieces m c) concatenates_S48_S1_S1_S50_d0 (ix1 48) 1 (Nat.lt_of_sub_eq_succ rfl) S1 _ rfl rfl
    48 rfl (ix1 0) (fun b hb => absurd (Fin.ext (by have := b.2; show (b : ℕ) = 0; exact Nat.lt_one_iff.mp this)) hb) rfl

/-- Entry 49 of the array of scales is the logarithm of the probability scale. -/
theorem log_scale : (V m c main_v14 : Vec Ideal S50 .f32) (ix1 49) = Ideal.log (PS m c ix0) := by
  rw [v14_eq, ← v13_apply]
  exact concatenate_apply_piece (t := S50) 0 (pieces m c) concatenates_S48_S1_S1_S50_d0 (ix1 49) 2 (Nat.lt_of_sub_eq_succ rfl) S1 _ rfl rfl
    49 rfl (ix1 0) (fun b hb => absurd (Fin.ext (by have := b.2; show (b : ℕ) = 0; exact Nat.lt_one_iff.mp this)) hb) rfl

/-- Every grid point reads the whole array of scales. -/
theorem scales_eq (t : Fin cfg0.N) : (iblk (F := Ideal) m c 0 t : Vec Ideal S50 .f32) = (V m c main_v14 : Vec Ideal S50 .f32) := by
  funext y
  idx_vars y
  blk_simp [iblk]
  blk_ext [index0 t]

/-- A grid point's block of queries: 512 queries of one batch, the three heads of one group. -/
theorem query_block (t : Fin cfg0.N) (a : Fin 512) (r : Fin 3) (e : Fin 128) :
    (iblk (F := Ideal) m c 1 t : Vec Ideal S1x512x384 .fp8e4m3) (ix3 0 a (colOf r e)) =
      Q m c (ix4 (⟨(grid0.coords t 0 : ℕ), (coord_lt t).1⟩ : Fin 2)
        (⟨512 * (grid0.coords t 2 : ℕ) + a, by have := coord_lt t; omega⟩ : Fin 16384)
        (⟨3 * (grid0.coords t 1 : ℕ) + r, by have := coord_lt t; omega⟩ : Fin 48) e) := by
  blk_simp [iblk]
  entry_read
  pointwise
  blk_ext [index1 t, colOf]

/-- A grid point's block of keys: all keys of one batch and one group. -/
theorem key_block (t : Fin cfg0.N) (a : Fin 16384) (e : Fin 128) :
    (iblk (F := Ideal) m c 2 t : Vec Ideal S1x16384x128 .fp8e4m3) (ix3 0 a e) =
      K m c (ix4 (⟨(grid0.coords t 0 : ℕ), (coord_lt t).1⟩ : Fin 2) a (⟨(grid0.coords t 1 : ℕ), (coord_lt t).2.1⟩ : Fin 16) e) := by
  blk_simp [iblk]
  entry_read
  pointwise
  blk_ext [index2 t]

/-- A grid point's block of values: all values of one batch and one group. -/
theorem value_block (t : Fin cfg0.N) (a : Fin 16384) (e : Fin 128) :
    (iblk (F := Ideal) m c 3 t : Vec Ideal S1x16384x128 .fp8e4m3) (ix3 0 a e) =
      V' m c (ix4 (⟨(grid0.coords t 0 : ℕ), (coord_lt t).1⟩ : Fin 2) a (⟨(grid0.coords t 1 : ℕ), (coord_lt t).2.1⟩ : Fin 16) e) := by
  blk_simp [iblk]
  entry_read
  pointwise
  blk_ext [index3 t]

/-- A grid point's value scales: those of its group. -/
theorem value_scale_block (t : Fin cfg0.N) (e : Fin 128) :
    (iblk (F := Ideal) m c 4 t : Vec Ideal S1x1x128 .f32) (ix3 0 0 e) =
      VS m c (ix2 (⟨(grid0.coords t 1 : ℕ), (coord_lt t).2.1⟩ : Fin 16) e) := by
  blk_simp [iblk]
  entry_read
  pointwise
  blk_ext [index4 t]

end Cert.KernelIdeal.Block
end
-- ==== Proof.KernelArray.lean ====
/-
  The kernel's result array in closed form: entry `(b, s, 128 (3 g + r) + d)` is the sum over the keys up to the query of the
  weight times the value, times the value scale times the probability scale.
-/
module

public import proofs.«01_k».proof.Proof.Inputs

@[expose] public section

set_option maxRecDepth 16384

noncomputable section

namespace Cert.KernelIdeal.Block

open Cert.KernelIdeal Cert.KernelIdeal.Gen Idealize.ShloMosaic Idealize.ShloMosaic.TcCoe Idealize.SL.Sem

/-- The keys of the blocks before the query's, and the keys of its own block up to it, are the keys up to the query. -/
theorem causal_sum (T : ℕ → EReal) (i a : ℕ) (hi : i < 32) (ha : a < 512) :
    (∑ n ∈ Finset.range (512 * i), T n) + ∑ n ∈ Finset.range 512, (if n ≤ a then T (512 * i + n) else 0)
      = ∑ n : Fin 16384, if (n : ℕ) ≤ 512 * i + a then T n else 0 := by
  rw [Finset.sum_fin_eq_sum_range]
  have h1 : ∀ n ∈ Finset.range 16384,
      (if h : n < 16384 then (if n ≤ 512 * i + a then T n else 0) else 0) = if n ≤ 512 * i + a then T n else 0 :=
    fun n hn => dif_pos (Finset.mem_range.mp hn)
  have h2 : (∑ n ∈ Finset.range (512 * i), T n) = ∑ n ∈ Finset.range (512 * i), if n ≤ 512 * i + a then T n else 0 :=
    Finset.sum_congr rfl fun n hn => (if_pos (by have := Finset.mem_range.mp hn; omega)).symm
  have h3 : (∑ n ∈ Finset.range 512, if n ≤ a then T (512 * i + n) else 0)
      = ∑ n ∈ Finset.range 512, if 512 * i + n ≤ 512 * i + a then T (512 * i + n) else 0 :=
    Finset.sum_congr rfl fun n _ => if_congr (by omega) rfl rfl
  rw [Finset.sum_congr rfl h1, h2, h3, ← Finset.sum_range_add]
  refine Finset.sum_subset (Finset.range_mono (by omega)) fun n _ hn => if_neg ?_
  rw [Finset.mem_range] at hn
  omega

variable (m : (ℓ : Loc nD τ sig) → Buf (Elt Ideal) ℓ) (c : Dev nD)

/-- Entry `d` of head `r` of group `g` of query `s` of batch `b` of the kernel's result. -/
def kernelAt (b : Fin 2) (s : Fin 16384) (g : Fin 16) (r : Fin 3) (d : Fin 128) : EReal :=
  (∑ n : Fin 16384, if (n : ℕ) ≤ s then
      weight (PS m c ix0) (k0_pay15 (F := Ideal) (Ideal.log (PS m c ix0)))
        (∑ e : Fin 128, Q m c (ix4 b s (⟨3 * (g : ℕ) + r, by omega⟩ : Fin 48) e) * K m c (ix4 b n g e))
        (QS m c (ix1 (⟨3 * (g : ℕ) + r, by omega⟩ : Fin 48)) * KS m c (ix1 g) * Ideal.ofBits .f32 0x3DB504F3#32) * V' m c (ix4 b n g d)
    else 0) * (VS m c (ix2 g d) * PS m c ix0)

/-- The kernel's result array. -/
def kernelArray : Vec Ideal S2x16384x6144 .bf16 := fun j =>
  kernelAt m c (j 0) (j 1) ⟨(j 2 : ℕ) / 384, by have : (j 2 : ℕ) < 6144 := (j 2).2; omega⟩
    ⟨(j 2 : ℕ) % 384 / 128, by omega⟩ ⟨(j 2 : ℕ) % 128, by omega⟩

/-- A block's entry is the result array's entry at the block's place. -/
theorem kernelArray_apply (b : Fin 2) (s : Fin 16384) (g : Fin 16) (r : Fin 3) (d : Fin 128) :
    kernelArray m c (ix3 b s (⟨384 * (g : ℕ) + (colOf r d : ℕ), by have := g.2; have := (colOf r d).2; omega⟩ : Fin 6144)) = kernelAt m c b s g r d := by
  have hr : (r : ℕ) < 3 := r.2
  have hd : (d : ℕ) < 128 := d.2
  have e1 : (384 * (g : ℕ) + (128 * (r : ℕ) + d)) / 384 = g := by omega
  have e2 : (384 * (g : ℕ) + (128 * (r : ℕ) + d)) % 384 / 128 = r := by omega
  have e3 : (384 * (g : ℕ) + (128 * (r : ℕ) + d)) % 128 = d := by omega
  show kernelAt m c b s ⟨(384 * (g : ℕ) + (128 * (r : ℕ) + d)) / 384, _⟩ ⟨(384 * (g : ℕ) + (128 * (r : ℕ) + d)) % 384 / 128, _⟩
    ⟨(384 * (g : ℕ) + (128 * (r : ℕ) + d)) % 128, _⟩ = _
  simp only [e1, e2, e3]

/-- A key's term at a grid point, as entries of the arguments. -/
theorem keyTerm_block (t : Fin cfg0.N) (p off : EReal) (r : Fin 3) (a : Fin 512) (d : Fin 128) (n : Fin 16384) :
    keyTerm p off (iblk (F := Ideal) m c 0 t) (iblk (F := Ideal) m c 1 t) (iblk (F := Ideal) m c 2 t) (iblk (F := Ideal) m c 3 t)
        ⟨(grid0.coords t 1 : ℕ), (coord_lt t).2.1⟩ r a d n
      = weight p off
          (∑ e : Fin 128, Q m c (ix4 (⟨(grid0.coords t 0 : ℕ), (coord_lt t).1⟩ : Fin 2)
              (⟨512 * (grid0.coords t 2 : ℕ) + a, by have := coord_lt t; omega⟩ : Fin 16384)
              (⟨3 * (grid0.coords t 1 : ℕ) + r, by have := coord_lt t; omega⟩ : Fin 48) e)
            * K m c (ix4 (⟨(grid0.coords t 0 : ℕ), (coord_lt t).1⟩ : Fin 2) n (⟨(grid0.coords t 1 : ℕ), (coord_lt t).2.1⟩ : Fin 16) e))
          (QS m c (ix1 (⟨3 * (grid0.coords t 1 : ℕ) + r, by have := coord_lt t; omega⟩ : Fin 48))
            * KS m c (ix1 (⟨(grid0.coords t 1 : ℕ), (coord_lt t).2.1⟩ : Fin 16)) * Ideal.ofBits .f32 0x3DB504F3#32)
        * V' m c (ix4 (⟨(grid0.coords t 0 : ℕ), (coord_lt t).1⟩ : Fin 2) n (⟨(grid0.coords t 1 : ℕ), (coord_lt t).2.1⟩ : Fin 16) d) := by
  rw [keyTerm, dif_pos n.2]
  refine congrArg₂ (· * ·) (congrArg₂ (weight p off) (Finset.sum_congr rfl fun e _ => ?_) ?_) ?_
  · exact congrArg₂ (· * ·) (query_block m c t a r e) (key_block m c t n e)
  · exact (congrFun (scales_eq m c t) _).trans (head_scale m c ⟨(grid0.coords t 1 : ℕ), (coord_lt t).2.1⟩ r)
  · exact value_block m c t n d

/-- The block a grid point writes is its block of `kernelArray`. -/
theorem outsAt_apply (t : Fin cfg0.N) (r : Fin 3) (a : Fin 512) (d : Fin 128) :
    outsAt0 (F := Ideal) m c t (ix3 0 a (colOf r d)) =
      kernelAt m c (⟨(grid0.coords t 0 : ℕ), (coord_lt t).1⟩ : Fin 2)
        (⟨512 * (grid0.coords t 2 : ℕ) + a, by have := coord_lt t; omega⟩ : Fin 16384)
        (⟨(grid0.coords t 1 : ℕ), (coord_lt t).2.1⟩ : Fin 16) r d := by
  have h48 : (iblk (F := Ideal) m c 0 t : Vec Ideal S50 .f32) (ix1 48) = PS m c ix0 := (congrFun (scales_eq m c t) _).trans (prob_scale m c)
  have h49 : (iblk (F := Ideal) m c 0 t : Vec Ideal S50 .f32) (ix1 49) = Ideal.log (PS m c ix0) :=
    (congrFun (scales_eq m c t) _).trans (log_scale m c)
  rw [outsAt0]
  refine (out_apply c (grid0.coords t) _ _ _ _ _ _ _ _ _ _ _ _ _ _ (iblk (F := Ideal) m c 0 t) (iblk (F := Ideal) m c 1 t)
    (iblk (F := Ideal) m c 2 t) (iblk (F := Ideal) m c 3 t) (iblk (F := Ideal) m c 4 t) r a d).trans ?_
  refine congrArg₂ (· * ·) ?_ (congrArg₂ (· * ·) (value_scale_block m c t d) h48)
  refine (causal_sum _ _ _ (coord_lt t).2.2 a.2).trans (Finset.sum_congr rfl fun n _ => ?_)
  refine if_congr Iff.rfl ?_ rfl
  rw [h48, h49]
  exact keyTerm_block m c t _ _ r a d n

/-- The array the kernel leaves in its result. -/
theorem array_eq : (dats (F := Ideal) m 0 c).arrAt 5 cfg0.N = kernelArray m c :=
  (dats m 0 c).arrAt_eq_of_covers 5 _ covers5 fun t hf y => by
    blk_simp
    rw [after0_5]
    idx_vars y
    obtain rfl : y0 = 0 := Subsingleton.elim _ _
    have hc := coord_lt t
    rw [← colOf_headCol y2]
    have hb : ((View.whole main_v15).slice (win0_5.rect t)).emb (ix3 0 y1 (colOf ⟨(y2 : ℕ) / 128, by omega⟩ (headCol y2)))
        = ix3 (⟨(grid0.coords t 0 : ℕ), hc.1⟩ : Fin 2) (⟨512 * (grid0.coords t 2 : ℕ) + y1, by omega⟩ : Fin 16384)
          (⟨384 * (grid0.coords t 1 : ℕ) + (colOf ⟨(y2 : ℕ) / 128, by omega⟩ (headCol y2) : ℕ), by omega⟩ : Fin 6144) := by
      blk_ext [index5 t, colOf]
    refine (outsAt_apply m c t ⟨(y2 : ℕ) / 128, by omega⟩ y1 (headCol y2)).trans ?_
    refine (kernelArray_apply m c _ _ ⟨(grid0.coords t 1 : ℕ), hc.2.1⟩ _ _).symm.trans ?_
    exact (congrArg (kernelArray m c) hb).symm

end Cert.KernelIdeal.Block
end
-- ==== Proof.Weights.lean ====
/-
  ONE ATTENTION WEIGHT. The kernel computes `1 / (2^(x · (-1/ln 2) + (14 + ln p · (1/ln 2))) + p)` where the reference computes
  `sigmoid(x - ln 16384) · (1 / p)`; `x` is the scaled score, `p` the scale of the probabilities, and both are clipped below at
  zero before anything else reads them. Over the extended reals the two clipped values are equal for every `x` and every `p`
  other than zero (`weight_eq`).
-/
module

public import Idealize.ShloMosaic.PureOps.Ideal
public import Idealize.ShloMosaic.PureOps.Ideal.Laws
public import Idealize.ShloMosaic.Lib.IdealHost

@[expose] public section

noncomputable section

namespace Cert.Weights

open Idealize.ShloMosaic

/-- The f32 constant `14.0` denotes the real `14`. -/
theorem ofBits_14 : Ideal.ofBits .f32 0x41600000#32 = ((14 : ℝ) : EReal) := by
  simp [Ideal.ofBits, Ideal.ieee, -EReal.coe_mul]; norm_num

/-- The f32 constant `448.0` denotes a number that is not negative. -/
theorem ofBits_448 : (0 : EReal) ≤ Ideal.ofBits .f32 0x43E00000#32 := by
  have : Ideal.ofBits .f32 0x43E00000#32 = ((448 : ℝ) : EReal) := by
    simp [Ideal.ofBits, Ideal.ieee, -EReal.coe_mul]; norm_num
  rw [this]; exact_mod_cast (by norm_num : (0 : ℝ) ≤ 448)

/-- `ln 2` is positive, so its reciprocal is. -/
theorem inv_log_two_pos : 0 < (Real.log 2)⁻¹ := inv_pos.mpr (Real.log_pos (by norm_num))

/-- The sigmoid of any extended real is a real number that is not negative. -/
theorem logistic_real (x : EReal) : ∃ r : ℝ, 0 ≤ r ∧ Ideal.logistic x = (r : EReal) := by
  induction x with
  | bot => exact ⟨0, le_rfl, by simp⟩
  | top => exact ⟨1, zero_le_one, by simp⟩
  | coe r => exact ⟨_, by positivity, Ideal.logistic_coe r⟩

/-- The power of two the kernel takes, at real arguments and a positive scale: `2^(-x/ln 2 + 14 + ln p/ln 2) = p · 16384 · e⁻ˣ`. -/
theorem two_rpow (x p : ℝ) (hp : 0 < p) :
    Real.rpow 2 (x * (-(Real.log 2)⁻¹) + (14 + Real.log p * (Real.log 2)⁻¹)) = p * (16384 * Real.exp (-x)) := by
  have h2 : Real.log 2 ≠ 0 := (Real.log_pos (by norm_num)).ne'
  have e : Real.log 2 * (x * (-(Real.log 2)⁻¹) + (14 + Real.log p * (Real.log 2)⁻¹))
      = Real.log p + (14 * Real.log 2 + -x) := by
    field_simp; ring
  have e14 : Real.exp (14 * Real.log 2) = 16384 := by
    rw [show (14 : ℝ) * Real.log 2 = ((14 : ℕ) : ℝ) * Real.log 2 by norm_num, Real.exp_nat_mul, Real.exp_log (by norm_num)]
    norm_num
  show (2 : ℝ) ^ (_ : ℝ) = _
  rw [Real.rpow_def_of_pos (by norm_num), e, Real.exp_add, Real.exp_add, Real.exp_log hp, e14]

/-- The reference's sigmoid at real `x`: `1 / (1 + 16384 e⁻ˣ)`. -/
theorem exp_neg_sub_log (x : ℝ) : Real.exp (-(x + -Real.log 16384)) = 16384 * Real.exp (-x) := by
  rw [show -(x + -Real.log 16384) = Real.log 16384 + -x by ring, Real.exp_add, Real.exp_log (by norm_num)]

/-- For every scale `p` other than zero, the kernel's weight and the reference's agree once clipped below at zero. -/
theorem weight_eq (x p : EReal) (hp : p ≠ 0) :
    max 0 (Ideal.div 1 (Ideal.exp2 (x * ((-(Real.log 2)⁻¹ : ℝ) : EReal)
        + (((14 : ℝ) : EReal) + Ideal.log p * (((Real.log 2)⁻¹ : ℝ) : EReal))) + p))
      = max 0 (Ideal.logistic (x + ((-Real.log 16384 : ℝ) : EReal)) * Ideal.div 1 p) := by
  have hc := inv_log_two_pos
  have hbot : (⊥ : EReal) * (((Real.log 2)⁻¹ : ℝ) : EReal) = ⊥ := EReal.bot_mul_coe_of_pos hc
  induction p with
  | bot => simp [hbot, Ideal.div]
  | top =>
    have htop : (⊤ : EReal) * (((Real.log 2)⁻¹ : ℝ) : EReal) = ⊤ := EReal.top_mul_coe_of_pos hc
    rw [Ideal.log_top, htop, EReal.coe_add_top]
    have h : Ideal.exp2 (x * ((-(Real.log 2)⁻¹ : ℝ) : EReal) + ⊤) + ⊤ = ⊤ := by
      generalize x * ((-(Real.log 2)⁻¹ : ℝ) : EReal) = w
      induction w with
      | bot => simp
      | top => simp
      | coe r => simp
    rw [h]; simp [Ideal.div]
  | coe p =>
    have hp0 : p ≠ 0 := fun h => hp (by rw [h]; rfl)
    have hd : Ideal.div 1 (p : EReal) = ((p⁻¹ : ℝ) : EReal) := by
      rw [Ideal.div, if_neg hp, one_mul, ← EReal.coe_inv]
    rcases lt_or_gt_of_ne hp0 with hneg | hpos
    · rw [Ideal.log_coe, if_pos hneg.le, hbot, EReal.add_bot, EReal.add_bot, Ideal.exp2_bot, zero_add, hd]
      obtain ⟨r, hr, e⟩ := logistic_real (x + ((-Real.log 16384 : ℝ) : EReal))
      rw [e, ← EReal.coe_mul, max_eq_left, max_eq_left]
      · exact_mod_cast mul_nonpos_of_nonneg_of_nonpos hr (inv_nonpos.mpr hneg.le)
      · exact_mod_cast inv_nonpos.mpr hneg.le
    · rw [hd, Ideal.log_coe, if_neg (not_le.mpr hpos), ← EReal.coe_mul, ← EReal.coe_add]
      congr 1
      induction x with
      | bot =>
        rw [EReal.bot_mul_coe_of_neg (neg_lt_zero.mpr hc), EReal.top_add_coe, Ideal.exp2_top, EReal.top_add_coe,
          EReal.bot_add, Ideal.logistic_bot]
        simp [Ideal.div]
      | top =>
        rw [EReal.top_mul_coe_of_neg (neg_lt_zero.mpr hc), EReal.bot_add, Ideal.exp2_bot, zero_add, hd,
          EReal.top_add_coe, Ideal.logistic_top, one_mul]
      | coe x =>
        rw [← EReal.coe_mul, ← EReal.coe_add, Ideal.exp2_coe, two_rpow x p hpos, ← EReal.coe_add, ← EReal.coe_add,
          Ideal.logistic_coe, exp_neg_sub_log]
        have hs : 0 < p * (16384 * Real.exp (-x)) + p := by positivity
        rw [Ideal.div, if_neg (by exact_mod_cast hs.ne'), one_mul, ← EReal.coe_inv, ← EReal.coe_mul]
        congr 1
        rw [← mul_inv]; congr 1; ring

end Cert.Weights

end
-- ==== Proof.Reference.lean ====
/-
  What the reference's payloads hold at one entry.
-/
module

public import proofs.«01_k».proof.ReferenceIdeal
public import proofs.«01_k».proof.Proof.Gen.ReferenceIdeal.Value
public import proofs.«01_k».proof.Proof.Weights
public import Idealize.ShloMosaic.Lib.Pointwise
public import Idealize.ShloMosaic.Lib.Pipeline.ValueKit
public import Idealize.ShloMosaic.Lib.Claim

@[expose] public section

set_option maxRecDepth 16384

noncomputable section

namespace Cert.ReferenceIdeal.Block

open Cert.ReferenceIdeal Cert.ReferenceIdeal.Gen Idealize.ShloMosaic Idealize.ShloMosaic.TcCoe Idealize.SL.Sem

/-- The pair of batch `b` and group `g`. -/
def pairOf (b : Fin 2) (g : Fin 16) : Fin 32 := ⟨16 * (b : ℕ) + g, by omega⟩
/-- The row of query `s` of head `r` of a group. -/
def rowOf (r : Fin 3) (s : Fin 16384) : Fin 49152 := ⟨16384 * (r : ℕ) + s, by omega⟩
/-- The column of entry `d` of head `r` of group `g`. -/
def outCol (g : Fin 16) (r : Fin 3) (d : Fin 128) : Fin 6144 := ⟨384 * (g : ℕ) + (128 * (r : ℕ) + d), by omega⟩

/-- An entry of the result is the product of the two arrays' entries at its group's row. -/
theorem pay1_apply (v30 v35 : FVec Ideal S32x49152x128 .f32) (b : Fin 2) (s : Fin 16384) (g : Fin 16) (r : Fin 3) (d : Fin 128) :
    k0_pay1 (F := Ideal) v30 v35 (ix3 b s (outCol g r d))
      = v30 (ix3 (pairOf b g) (rowOf r s) d) * v35 (ix3 (pairOf b g) (rowOf r s) d) := by
  have hr : (r : ℕ) < 3 := r.2
  have hd : (d : ℕ) < 128 := d.2
  have e1 : (b : ℕ) * 16 + (384 * (g : ℕ) + (128 * (r : ℕ) + d)) / 128 / 3 = 16 * (b : ℕ) + g := by omega
  have e2 : (384 * (g : ℕ) + (128 * (r : ℕ) + d)) / 128 % 3 * 16384 + (s : ℕ) = 16384 * (r : ℕ) + s := by omega
  pointwise [k0_pay1, outCol]
  simp only [e1, e2]
  rfl

/-- The second factor is the probability scale times the value scale. -/
theorem pay3_apply (p : EReal) (v31 : Vec Ideal S32x1x128 .f32) (w : Fin 32) (y : Fin 49152) (d : Fin 128) :
    k0_pay3 (F := Ideal) p v31 (ix3 w y d) = p * v31 (ix3 w 0 d) := by
  pointwise [k0_pay3]

/-- The reference's attention weight of one score `s`, under the probability scale `p` and the score scale `sc`. -/
def refWeight (p s sc : EReal) : EReal :=
  min (Ideal.ofBits .f32 0x43E00000#32)
    (max 0 (Ideal.logistic (s * sc + Named.named (F := Ideal) κ "bias" (φ := .f32) 0xC11B43D5#32) * Ideal.div 1 p))

/-- A masked weight: the causal mask comes before the scale of the probabilities and the clip. -/
theorem masked_weight (p s sc : EReal) (n a : Fin 16384) :
    min (Ideal.ofBits .f32 0x43E00000#32) (max 0 (Scalar.select (IntOp.cmpi .sle (BitVec.ofNat 32 ↑n) (BitVec.ofNat 32 ↑a))
        (Ideal.logistic (s * sc + Named.named (F := Ideal) κ "bias" (φ := .f32) 0xC11B43D5#32) * Ideal.div 1 p) 0))
      = if (n : ℕ) ≤ a then refWeight p s sc else 0 := by
  rw [WordCmp.cmpi_sle_ofNat (by have := n.2; omega) (by have := a.2; omega), WordCmp.select_ofBool]
  by_cases h : (n : ℕ) ≤ a
  · simp only [h, decide_true, if_true]; rfl
  · simp only [h, decide_false, if_false, Bool.false_eq_true, max_self]
    exact min_eq_right Cert.Weights.ofBits_448

/-- The first factor is the sum over the keys up to the query of the clipped weight times the value. -/
theorem pay2_apply (v0 : Vec Ideal S32x49152x128 .fp8e4m3) (v2 : Vec Ideal S32x16384x128 .fp8e4m3) (v6 : Vec Ideal S32x3x1x1 .f32)
    (p : EReal) (v28 : Vec Ideal S32x16384x128 .fp8e4m3) (w : Fin 32) (r : Fin 3) (s : Fin 16384) (d : Fin 128) :
    k0_pay2 (F := Ideal) v0 v2 v6 p v28 (ix3 w (rowOf r s) d)
      = ∑ n : Fin 16384, if (n : ℕ) ≤ s then
          refWeight p (∑ e : Fin 128, v0 (ix3 w (rowOf r s) e) * v2 (ix3 w n e)) (v6 (ix4 w r 0 0)) * v28 (ix3 w n d) else 0 := by
  pointwise [k0_pay2, rowOf]
  refine Finset.sum_congr rfl fun n _ => ?_
  rw [masked_weight, ite_mul, zero_mul]
  simp only [Nat.mul_comm 16384 (r : ℕ)]

section Block

variable (c : Dev nD)
  (arg0 : Memref sig .tc .vmem S32x49152x128 .fp8e4m3) (harg0 : arg0.IsWhole)
  (arg1 : Memref sig .tc .vmem S32x16384x128 .fp8e4m3) (harg1 : arg1.IsWhole)
  (arg2 : Memref sig .tc .vmem S32x16384x128 .fp8e4m3) (harg2 : arg2.IsWhole)
  (arg3 : Memref sig .tc .vmem S32x3x1x1 .f32) (harg3 : arg3.IsWhole)
  (arg4 : Memref sig .tc .vmem S32x1x128 .f32) (harg4 : arg4.IsWhole)
  (arg5 : Memref sig .tc .smem S1 .f32) (harg5 : arg5.IsWhole)
  (arg6 : Memref sig .tc .vmem S2x16384x6144 .bf16) (harg6 : arg6.IsWhole)
  (x0 : Vec Ideal S32x49152x128 .fp8e4m3) (x1 x2 : Vec Ideal S32x16384x128 .fp8e4m3) (x3 : Vec Ideal S32x3x1x1 .f32)
  (x4 : Vec Ideal S32x1x128 .f32) (x5 : Vec Ideal S1 .f32)

/-- An entry of the reference's result, as entries of the arrays its body reads. -/
theorem out_apply (b : Fin 2) (s : Fin 16384) (g : Fin 16) (r : Fin 3) (d : Fin 128) :
    out0_A_6 (F := Ideal) c arg0 harg0 arg1 harg1 arg2 harg2 arg3 harg3 arg4 harg4 arg5 harg5 arg6 harg6 x0 x1 x2 x3 x4 x5 (ix3 b s (outCol g r d))
      = (∑ n : Fin 16384, if (n : ℕ) ≤ s then
          refWeight (x5 (ix1 0)) (∑ e : Fin 128, x0 (ix3 (pairOf b g) (rowOf r s) e) * x1 (ix3 (pairOf b g) n e)) (x3 (ix4 (pairOf b g) r 0 0))
            * x2 (ix3 (pairOf b g) n d) else 0)
        * (x5 (ix1 0) * x4 (ix3 (pairOf b g) 0 d)) := by
  frame_open
  frame_out
  refine (pay1_apply _ _ b s g r d).trans ?_
  have h5 : View.ld x5 (Rect.unit (s := S1) ![0] S1.size inb_S1_S1_0) (Shape.Idx.first (by decide)) = x5 (ix1 0) := by
    refine congrArg x5 (funext fun a => Fin.ext ?_)
    fin_cases a
    rfl
  have key : ∀ p : EReal, p = x5 (ix1 0) →
      k0_pay2 (F := Ideal) x0 x1 x3 p x2 (ix3 (pairOf b g) (rowOf r s) d) * k0_pay3 (F := Ideal) p x4 (ix3 (pairOf b g) (rowOf r s) d)
        = (∑ n : Fin 16384, if (n : ℕ) ≤ s then
            refWeight (x5 (ix1 0)) (∑ e : Fin 128, x0 (ix3 (pairOf b g) (rowOf r s) e) * x1 (ix3 (pairOf b g) n e)) (x3 (ix4 (pairOf b g) r 0 0))
              * x2 (ix3 (pairOf b g) n d) else 0)
          * (x5 (ix1 0) * x4 (ix3 (pairOf b g) 0 d)) := by
    rintro p rfl
    rw [pay2_apply, pay3_apply]
  exact key _ h5

end Block

end Cert.ReferenceIdeal.Block
end
-- ==== Proof.ReferenceArray.lean ====
/-
  The reference's result array in closed form, in the program's arguments.
-/
module

public import proofs.«01_k».proof.Proof.Reference
public import Idealize.ShloMosaic.Lib.Pipeline.Covers

@[expose] public section

set_option maxRecDepth 16384

noncomputable section

namespace Cert.ReferenceIdeal.Block

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- The queries, as the program is given them. -/
abbrev Q : Vec Ideal S2x16384x48x128 .fp8e4m3 := m ((c : Thread nD τ).loc main_arg0)
/-- The queries' scales. -/
abbrev QS : Vec Ideal S48 .f32 := m ((c : Thread nD τ).loc main_arg1)
/-- The keys. -/
abbrev K : Vec Ideal S2x16384x16x128 .fp8e4m3 := m ((c : Thread nD τ).loc main_arg2)
/-- The keys' scales. -/
abbrev KS : Vec Ideal S16 .f32 := m ((c : Thread nD τ).loc main_arg3)
/-- The values. -/
abbrev V' : Vec Ideal S2x16384x16x128 .fp8e4m3 := m ((c : Thread nD τ).loc main_arg4)
/-- The values' scales. -/
abbrev VS : Vec Ideal S16x128 .f32 := m ((c : Thread nD τ).loc main_arg5)
/-- The scale of the probabilities. -/
abbrev PS : Vec Ideal S_ .f32 := m ((c : Thread nD τ).loc main_arg6)

section Blocks

variable (t : Fin cfg0.N) (b : Fin 2) (g : Fin 16) (r : Fin 3) (s : Fin 16384) (e : Fin 128)

/-- The body reads the whole array of queries. -/
theorem query_whole : (iblk (F := Ideal) m c 0 t : Vec Ideal S32x49152x128 .fp8e4m3) = (V m c main_v1 : Vec Ideal S32x49152x128 .fp8e4m3) := by
  funext y
  blk_simp [iblk]
  refine congrArg _ (funext fun a => Fin.ext ?_)
  show 0 * _ + 1 * _ = _
  rw [Nat.zero_mul, Nat.zero_add, Nat.one_mul]

/-- The body reads the whole array of keys. -/
theorem key_whole : (iblk (F := Ideal) m c 1 t : Vec Ideal S32x16384x128 .fp8e4m3) = (V m c main_v3 : Vec Ideal S32x16384x128 .fp8e4m3) := by
  funext y
  blk_simp [iblk]
  refine congrArg _ (funext fun a => Fin.ext ?_)
  show 0 * _ + 1 * _ = _
  rw [Nat.zero_mul, Nat.zero_add, Nat.one_mul]

/-- The body reads the whole array of values. -/
theorem value_whole : (iblk (F := Ideal) m c 2 t : Vec Ideal S32x16384x128 .fp8e4m3) = (V m c main_v5 : Vec Ideal S32x16384x128 .fp8e4m3) := by
  funext y
  blk_simp [iblk]
  refine congrArg _ (funext fun a => Fin.ext ?_)
  show 0 * _ + 1 * _ = _
  rw [Nat.zero_mul, Nat.zero_add, Nat.one_mul]

/-- The body reads the whole array of score scales. -/
theorem score_whole : (iblk (F := Ideal) m c 3 t : Vec Ideal S32x3x1x1 .f32) = (V m c main_v15 : Vec Ideal S32x3x1x1 .f32) := by
  funext y
  blk_simp [iblk]
  refine congrArg _ (funext fun a => Fin.ext ?_)
  show 0 * _ + 1 * _ = _
  rw [Nat.zero_mul, Nat.zero_add, Nat.one_mul]

/-- The body reads the whole array of value scales. -/
theorem value_scale_whole : (iblk (F := Ideal) m c 4 t : Vec Ideal S32x1x128 .f32) = (V m c main_v19 : Vec Ideal S32x1x128 .f32) := by
  funext y
  blk_simp [iblk]
  refine congrArg _ (funext fun a => Fin.ext ?_)
  show 0 * _ + 1 * _ = _
  rw [Nat.zero_mul, Nat.zero_add, Nat.one_mul]

/-- The body reads the probability scale. -/
theorem prob_whole : (iblk (F := Ideal) m c 5 t : Vec Ideal S1 .f32) = (V m c main_v20 : Vec Ideal S1 .f32) := by
  funext y
  blk_simp [iblk]
  refine congrArg _ (funext fun a => Fin.ext ?_)
  show 0 * _ + 1 * _ = _
  rw [Nat.zero_mul, Nat.zero_add, Nat.one_mul]

/-- The queries the reference's body reads. -/
theorem query_block : (iblk (F := Ideal) m c 0 t : Vec Ideal S32x49152x128 .fp8e4m3) (ix3 (pairOf b g) (rowOf r s) e)
    = Q m c (ix4 b s (⟨3 * (g : ℕ) + r, by omega⟩ : Fin 48) e) := by
  have e1 : (16 * (b : ℕ) + g) / 16 = b := by omega
  have e2 : (16384 * (r : ℕ) + s) % 16384 = s := by omega
  have e3 : (16 * (b : ℕ) + g) % 16 * 3 + (16384 * (r : ℕ) + s) / 16384 = 3 * g + r := by omega
  rw [query_whole]
  entry_read
  pointwise [pairOf, rowOf]
  simp only [e1, e2, e3]

/-- The keys the reference's body reads. -/
theorem key_block : (iblk (F := Ideal) m c 1 t : Vec Ideal S32x16384x128 .fp8e4m3) (ix3 (pairOf b g) s e) = K m c (ix4 b s g e) := by
  have e1 : (16 * (b : ℕ) + g) / 16 = b := by omega
  have e2 : (16 * (b : ℕ) + g) % 16 = g := by omega
  rw [key_whole]
  entry_read
  pointwise [pairOf]

/-- The values the reference's body reads. -/
theorem value_block : (iblk (F := Ideal) m c 2 t : Vec Ideal S32x16384x128 .fp8e4m3) (ix3 (pairOf b g) s e) = V' m c (ix4 b s g e) := by
  have e1 : (16 * (b : ℕ) + g) / 16 = b := by omega
  have e2 : (16 * (b : ℕ) + g) % 16 = g := by omega
  rw [value_whole]
  entry_read
  pointwise [pairOf]

/-- The scores' scale the reference's body reads: the query scale times the key scale times the inverse root of the head size. -/
theorem score_block : (iblk (F := Ideal) m c 3 t : Vec Ideal S32x3x1x1 .f32) (ix4 (pairOf b g) r 0 0)
    = QS m c (ix1 (⟨3 * (g : ℕ) + r, by omega⟩ : Fin 48)) * KS m c (ix1 g) * Ideal.ofBits .f32 0x3DB504F3#32 := by
  have e2 : (16 * (b : ℕ) + g) % 16 = g := by omega
  rw [score_whole]
  entry_read
  pointwise [pairOf]
  simp only [e2, Nat.mul_comm (g : ℕ) 3]

/-- The value scales the reference's body reads. -/
theorem value_scale_block : (iblk (F := Ideal) m c 4 t : Vec Ideal S32x1x128 .f32) (ix3 (pairOf b g) 0 e) = VS m c (ix2 g e) := by
  have e2 : (16 * (b : ℕ) + g) % 16 = g := by omega
  rw [value_scale_whole]
  entry_read
  pointwise [pairOf]
  simp only [e2]

/-- The probability scale the reference's body reads. -/
theorem prob_block : (iblk (F := Ideal) m c 5 t : Vec Ideal S1 .f32) (ix1 0) = PS m c ix0 := by
  rw [prob_whole]
  entry_read
  pointwise

end Blocks

/-- Entry `d` of head `r` of group `g` of query `s` of batch `b` of the reference's result. -/
def referenceAt (b : Fin 2) (s : Fin 16384) (g : Fin 16) (r : Fin 3) (d : Fin 128) : EReal :=
  (∑ n : Fin 16384, if (n : ℕ) ≤ s then
      refWeight (PS m c ix0)
        (∑ e : Fin 128, Q m c (ix4 b s (⟨3 * (g : ℕ) + r, by omega⟩ : Fin 48) e) * K m c (ix4 b n g e))
        (QS m c (ix1 (⟨3 * (g : ℕ) + r, by omega⟩ : Fin 48)) * KS m c (ix1 g) * Ideal.ofBits .f32 0x3DB504F3#32) * V' m c (ix4 b n g d)
    else 0) * (PS m c ix0 * VS m c (ix2 g d))

/-- An entry of what the reference's one grid point writes. -/
theorem outsAt_apply (t : Fin cfg0.N) (b : Fin 2) (s : Fin 16384) (g : Fin 16) (r : Fin 3) (d : Fin 128) :
    outsAt0 (F := Ideal) m c t (ix3 b s (outCol g r d)) = referenceAt m c b s g r d := by
  rw [outsAt0]
  refine (out_apply c _ _ _ _ _ _ _ _ _ _ _ _ _ _ (iblk (F := Ideal) m c 0 t) (iblk (F := Ideal) m c 1 t)
    (iblk (F := Ideal) m c 2 t) (iblk (F := Ideal) m c 3 t) (iblk (F := Ideal) m c 4 t) (iblk (F := Ideal) m c 5 t) b s g r d).trans ?_
  refine congrArg₂ (· * ·) (Finset.sum_congr rfl fun n _ => if_congr Iff.rfl ?_ rfl)
    (congrArg₂ (· * ·) (prob_block m c t) (value_scale_block m c t b g d))
  refine congrArg₂ (· * ·) ?_ (value_block m c t b g n d)
  rw [prob_block]
  refine congrArg₂ (refWeight _) (Finset.sum_congr rfl fun e _ => ?_) (score_block m c t b g r)
  exact congrArg₂ (· * ·) (query_block m c t b g r s e) (key_block m c t b g n e)

/-- The reference's result array. -/
def referenceArray : Vec Ideal S2x16384x6144 .bf16 := fun j =>
  referenceAt m c (j 0) (j 1) ⟨(j 2 : ℕ) / 384, by have : (j 2 : ℕ) < 6144 := (j 2).2; omega⟩
    ⟨(j 2 : ℕ) % 384 / 128, by omega⟩ ⟨(j 2 : ℕ) % 128, by omega⟩

/-- Every column of the result is a column of some head. -/
theorem outCol_eq (y : Fin 6144) : outCol ⟨(y : ℕ) / 384, by omega⟩ ⟨(y : ℕ) % 384 / 128, by omega⟩ ⟨(y : ℕ) % 128, by omega⟩ = y :=
  Fin.ext (by show 384 * ((y : ℕ) / 384) + (128 * ((y : ℕ) % 384 / 128) + (y : ℕ) % 128) = y; omega)

/-- The one grid point's block is the whole result. -/
theorem covers6 : (cfg0.win 6).Covers :=
  (cfg0.win 6).covers_of_indexMap_surj rfl (by decide) fun β => ⟨fun a => a.elim0, fun a => by
    have h : ∀ a, (cfg0.win 6).nblk a = 1 := by decide +kernel
    exact (Nat.lt_one_iff.mp (lt_of_lt_of_eq (β a).2 (h a))).symm⟩

/-- The array the reference leaves in its result. -/
theorem array_eq : (dats (F := Ideal) m 0 c).arrAt 6 cfg0.N = referenceArray m c :=
  (dats m 0 c).arrAt_eq_of_covers 6 _ covers6 fun t hf y => by
    blk_simp
    rw [after0_6]
    idx_vars y
    have hb : ((View.whole main_v21).slice (win0_6.rect t)).emb (ix3 y0 y1 y2) = ix3 y0 y1 y2 := by
      refine funext fun a => Fin.ext ?_
      show 0 * _ + 1 * _ = _
      rw [Nat.zero_mul, Nat.zero_add, Nat.one_mul]
    refine Eq.trans ?_ (congrArg (referenceArray m c) hb).symm
    refine (congrArg (fun z => outsAt0 (F := Ideal) m c t (ix3 y0 y1 z)) (outCol_eq y2)).symm.trans ?_
    exact outsAt_apply m c t y0 y1 _ _ _

end Cert.ReferenceIdeal.Block
end
-- ==== Proof.Equation.lean ====
/-
  The kernel's array and the reference's are equal where the arguments agree. Where the probability scale is not zero the two
  weights agree; where it is zero both results are multiplied by zero.
-/
module

public import proofs.«01_k».proof.Proof.KernelArray
public import proofs.«01_k».proof.Proof.ReferenceArray
public import proofs.«01_k».proof.Proof.Weights

@[expose] public section

set_option maxRecDepth 16384

noncomputable section

namespace Cert.Equation

open Idealize.ShloMosaic Idealize.ShloMosaic.TcCoe Idealize.SL.Sem

/-- The kernel's named constant is minus the inverse of the logarithm of two. -/
theorem neg_log2_e : Named.named (F := Ideal) Cert.KernelIdeal.κ "neg_log2_e" (φ := .f32) 0xBFB8AA3B#32 = ((-(Real.log 2)⁻¹ : ℝ) : EReal) :=
  IdealRules.named_const.ideal_named_scalar _ _ _ _ rfl

/-- The kernel's named constant is the inverse of the logarithm of two. -/
theorem log2_e : Named.named (F := Ideal) Cert.KernelIdeal.κ "log2_e" (φ := .f32) 0x3FB8AA3B#32 = (((Real.log 2)⁻¹ : ℝ) : EReal) :=
  IdealRules.named_const.ideal_named_scalar _ _ _ _ rfl

/-- The reference's named constant is minus the logarithm of the sequence length. -/
theorem bias : Named.named (F := Ideal) Cert.ReferenceIdeal.κ "bias" (φ := .f32) 0xC11B43D5#32 = ((-Real.log 16384 : ℝ) : EReal) :=
  IdealRules.named_const.ideal_named_scalar _ _ _ _ rfl

/-- The two weights agree under a probability scale that is not zero. -/
theorem weight_agree (p s sc : EReal) (hp : p ≠ 0) :
    Cert.KernelIdeal.Block.weight p (Cert.KernelIdeal.Gen.k0_pay15 (F := Ideal) (Ideal.log p)) s sc = Cert.ReferenceIdeal.Block.refWeight p s sc := by
  have hoff : Cert.KernelIdeal.Gen.k0_pay15 (F := Ideal) (Ideal.log p) = ((14 : ℝ) : EReal) + Ideal.log p * (((Real.log 2)⁻¹ : ℝ) : EReal) := by
    rw [← log2_e, ← Cert.Weights.ofBits_14]
    rfl
  rw [Cert.KernelIdeal.Block.weight, Cert.ReferenceIdeal.Block.refWeight, neg_log2_e, bias, hoff, ← mul_assoc, Cert.Weights.weight_eq _ _ hp]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two results' entries are equal where the arguments are. -/
theorem entry_eq (hQ : Cert.ReferenceIdeal.Block.Q m' c = Cert.KernelIdeal.Block.Q m c)
    (hQS : Cert.ReferenceIdeal.Block.QS m' c = Cert.KernelIdeal.Block.QS m c)
    (hK : Cert.ReferenceIdeal.Block.K m' c = Cert.KernelIdeal.Block.K m c)
    (hKS : Cert.ReferenceIdeal.Block.KS m' c = Cert.KernelIdeal.Block.KS m c)
    (hV : Cert.ReferenceIdeal.Block.V' m' c = Cert.KernelIdeal.Block.V' m c)
    (hVS : Cert.ReferenceIdeal.Block.VS m' c = Cert.KernelIdeal.Block.VS m c)
    (hPS : Cert.ReferenceIdeal.Block.PS m' c = Cert.KernelIdeal.Block.PS m c)
    (b : Fin 2) (s : Fin 16384) (g : Fin 16) (r : Fin 3) (d : Fin 128) :
    Cert.ReferenceIdeal.Block.referenceAt m' c b s g r d = Cert.KernelIdeal.Block.kernelAt m c b s g r d := by
  rw [Cert.ReferenceIdeal.Block.referenceAt, Cert.KernelIdeal.Block.kernelAt, hQ, hQS, hK, hKS, hV, hVS, hPS]
  by_cases hp : Cert.KernelIdeal.Block.PS m c ix0 = 0
  · rw [hp, zero_mul, mul_zero, mul_zero, mul_zero]
  · refine congrArg₂ (· * ·) (Finset.sum_congr rfl fun n _ => if_congr Iff.rfl ?_ rfl) (mul_comm _ _)
    rw [weight_agree _ _ _ hp]

/-- The two result arrays are equal where the arguments are. -/
theorem array_eq (hQ : Cert.ReferenceIdeal.Block.Q m' c = Cert.KernelIdeal.Block.Q m c)
    (hQS : Cert.ReferenceIdeal.Block.QS m' c = Cert.KernelIdeal.Block.QS m c)
    (hK : Cert.ReferenceIdeal.Block.K m' c = Cert.KernelIdeal.Block.K m c)
    (hKS : Cert.ReferenceIdeal.Block.KS m' c = Cert.KernelIdeal.Block.KS m c)
    (hV : Cert.ReferenceIdeal.Block.V' m' c = Cert.KernelIdeal.Block.V' m c)
    (hVS : Cert.ReferenceIdeal.Block.VS m' c = Cert.KernelIdeal.Block.VS m c)
    (hPS : Cert.ReferenceIdeal.Block.PS m' c = Cert.KernelIdeal.Block.PS m c) :
    Cert.ReferenceIdeal.Block.referenceArray m' c = Cert.KernelIdeal.Block.kernelArray m c :=
  funext fun _ => entry_eq m m' c hQ hQS hK hKS hV hVS hPS _ _ _ _ _

end Cert.Equation
end
-- ==== Proof.lean ====
/-
  The claims of this certificate, assembled: the generated frames, the two named constants, and the equality of the kernel's
  and the reference's result arrays (Proof/Equation.lean).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel and the reference leave the same result: the kernel's array, entry for entry. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, Cert.KernelIdeal.Value.run_blocks (F := Ideal) m ρ, ?_⟩
  refine (θ_run _ _ _).mono (fun _ h c => ⟨(h c).1.trans ?_, (h c).2⟩) (Cert.ReferenceIdeal.Value.run_blocks (F := Ideal) m' ρ')
  obtain ⟨h0, h1, h2, h3, h4, h5, h6⟩ := hagree c
  exact ((Cert.ReferenceIdeal.Block.array_eq m' c).trans (Cert.Equation.array_eq m m' c h0 h1 h2 h3 h4 h5 h6)).trans
    (Cert.KernelIdeal.Block.array_eq m c).symm

/-- The claims: the frames of the kernel, its idealization and the reference, the idealization's steps, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  ⟨IdealRules.named_const.statement _ _ _ _ _ rfl, IdealRules.named_const.statement _ _ _ _ _ rfl⟩, algebraic⟩

end Cert.Proof

end
